-- ==== Defs.lean ====
def Pre_Kernel [hPre_sizes_ok : Cert.Pre_sizes_ok.Facts] (m : (ℓ : Loc Cert.Kernel.nD Cert.Kernel.τ Cert.Kernel.sig) → Buf (Elt Bits) ℓ) : Prop :=
  ∀ c : Dev Cert.Kernel.nD,
    (Cert.Pre_sizes_ok.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_sizes_ok : Cert.Pre_sizes_ok.Facts] (m : (ℓ : Loc Cert.KernelIdeal.nD Cert.KernelIdeal.τ Cert.KernelIdeal.sig) → Buf (Elt Ideal) ℓ) : Prop :=
  ∀ c : Dev Cert.KernelIdeal.nD,
    (Cert.Pre_sizes_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_sizes_ok [hPre_sizes_ok : Cert.Pre_sizes_ok.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_sizes_ok.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] [hPre_sizes_ok : Cert.Pre_sizes_ok.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] [hPre_sizes_ok : Cert.Pre_sizes_ok.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_sizes_ok [hReferenceIdeal : Cert.ReferenceIdeal.Facts] [hPre_sizes_ok : Cert.Pre_sizes_ok.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_sizes_ok m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_sizes_ok : Cert.Pre_sizes_ok.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v59)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v59) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_sizes_ok : Cert.Pre_sizes_ok.Facts),
    quiescent_Kernel (hKernel := hKernel) (hPre_sizes_ok := hPre_sizes_ok)
    ∧ quiescent_KernelIdeal (hKernelIdeal := hKernelIdeal) (hPre_sizes_ok := hPre_sizes_ok)
    ∧ quiescent_ReferenceIdeal (hReferenceIdeal := hReferenceIdeal)
    ∧ quiescent_ReferenceIdeal_pre_sizes_ok (hReferenceIdeal := hReferenceIdeal) (hPre_sizes_ok := hPre_sizes_ok)
    ∧ preserves_Kernel_KernelIdeal
    ∧ algebraic_KernelIdeal_ReferenceIdeal (hKernelIdeal := hKernelIdeal) (hReferenceIdeal := hReferenceIdeal) (hPre_sizes_ok := hPre_sizes_ok)
-- ==== Pre_sizes_ok.lean ====
abbrev S8192x16384 : Shape := ⟨2, ![8192, 16384]⟩
abbrev S5 : Shape := ⟨1, ![5]⟩
abbrev S5x1536x16384 : Shape := ⟨3, ![5, 1536, 16384]⟩
abbrev S5x1536 : Shape := ⟨2, ![5, 1536]⟩
abbrev S_ : Shape := ⟨0, ![]⟩

class Facts : Prop where
  bcast_S_S5 : S_.BroadcastsInDim S5 (![] : Fin 0 → Fin S5.rank)
  reducesTo_S5_S_d0 : S5.ReducesTo [0] S_
  h_S_ : 0 < S_.numel

variable [Facts]

def fn {F : FTy → Type} [FloatOps F] (main_arg0 : FVec F S8192x16384 .bf16) (main_arg1 : IVec S5 32) (main_arg2 : FVec F S5x1536x16384 .fp8e4m3) (main_arg3 : FVec F S5x1536 .f32) : IVec S_ 1 :=
  let main_c : IVec S_ 32 := constantI S_ 32 0#32
  let main_v0 : IVec S5 32 := broadcastInDim S5 ![] bcast_S_S5 main_c
  let main_v1 : IVec S5 1 := cmpi .sge main_arg1 main_v0
  let main_c_0 : IVec S_ 1 := constantI S_ 1 1#1
  let main_v2 : IVec S_ 1 := (fun x v => Host.reduce IntOp.andi x v reducesTo_S5_S_d0 h_S_) main_v1 main_c_0
  let main_c_1 : IVec S_ 32 := constantI S_ 32 8192#32
  let main_v3 : IVec S5 32 := broadcastInDim S5 ![] bcast_S_S5 main_c_1
  let main_v4 : IVec S5 1 := cmpi .sle main_arg1 main_v3
  let main_c_2 : IVec S_ 1 := constantI S_ 1 1#1
  let main_v5 : IVec S_ 1 := (fun x v => Host.reduce IntOp.andi x v reducesTo_S5_S_d0 h_S_) main_v4 main_c_2
  let main_v6 : IVec S_ 1 := andi main_v2 main_v5
  let main_c_3 : IVec S_ 32 := constantI S_ 32 0#32
  let main_v7 : IVec S_ 32 := (fun x v => Host.reduce IntOp.addi x v reducesTo_S5_S_d0 h_S_) main_arg1 main_c_3
  let main_c_4 : IVec S_ 32 := constantI S_ 32 8192#32
  let main_v8 : IVec S_ 1 := cmpi .eq main_v7 main_c_4
  let main_v9 : IVec S_ 1 := andi main_v6 main_v8
  main_v9
-- ==== Kernel.lean ====
abbrev S8192x16384 : Shape := ⟨2, ![8192, 16384]⟩
abbrev S5 : Shape := ⟨1, ![5]⟩
abbrev S5x1536x16384 : Shape := ⟨3, ![5, 1536, 16384]⟩
abbrev S5x1536 : Shape := ⟨2, ![5, 1536]⟩
abbrev S_ : Shape := ⟨0, ![]⟩
abbrev S36 : Shape := ⟨1, ![36]⟩
abbrev S1 : Shape := ⟨1, ![1]⟩
abbrev S36x1 : Shape := ⟨2, ![36, 1]⟩
abbrev S1x5 : Shape := ⟨2, ![1, 5]⟩
abbrev S36x5 : Shape := ⟨2, ![36, 5]⟩
abbrev S5x1x1536 : Shape := ⟨3, ![5, 1, 1536]⟩
abbrev S8192x1536 : Shape := ⟨2, ![8192, 1536]⟩
abbrev S256x16384 : Shape := ⟨2, ![256, 16384]⟩
abbrev S1x512x16384 : Shape := ⟨3, ![1, 512, 16384]⟩
abbrev S1x1x512 : Shape := ⟨3, ![1, 1, 512]⟩
abbrev S256x1536 : Shape := ⟨2, ![256, 1536]⟩
abbrev S256x128 : Shape := ⟨2, ![256, 128]⟩
abbrev S32x16384 : Shape := ⟨2, ![32, 16384]⟩
abbrev S32 : Shape := ⟨1, ![32]⟩
abbrev S32x1 : Shape := ⟨2, ![32, 1]⟩
abbrev S32x128 : Shape := ⟨2, ![32, 128]⟩
abbrev S512x16384 : Shape := ⟨2, ![512, 16384]⟩
abbrev S256x512 : Shape := ⟨2, ![256, 512]⟩
abbrev S256x1 : Shape := ⟨2, ![256, 1]⟩
abbrev S1x512 : Shape := ⟨2, ![1, 512]⟩

abbrev nBuf : Space → Nat
  | .hbm => 111
  | .vmem => 10
  | .smem => 5
  | _ => 0

abbrev bufTy : (tb : Table) → Fin (tcTables nBuf tb) → BufTy
  | .hbm, ⟨0, _⟩ => ⟨S8192x16384, .bf16⟩
  | .hbm, ⟨1, _⟩ => ⟨S5, .i32⟩
  | .hbm, ⟨2, _⟩ => ⟨S5x1536x16384, .fp8e4m3⟩
  | .hbm, ⟨3, _⟩ => ⟨S5x1536, .f32⟩
  | .hbm, ⟨4, _⟩ => ⟨S_, .i32⟩
  | .hbm, ⟨5, _⟩ => ⟨S_, .i32⟩
  | .hbm, ⟨6, _⟩ => ⟨S5, .i32⟩
  | .hbm, ⟨7, _⟩ => ⟨S5, .i32⟩
  | .hbm, ⟨8, _⟩ => ⟨S_, .i32⟩
  | .hbm, ⟨9, _⟩ => ⟨S5, .i32⟩
  | .hbm, ⟨10, _⟩ => ⟨S5, .i1⟩
  | .hbm, ⟨11, _⟩ => ⟨S_, .i32⟩
  | .hbm, ⟨12, _⟩ => ⟨S_, .i32⟩
  | .hbm, ⟨13, _⟩ => ⟨S5, .i32⟩
  | .hbm, ⟨14, _⟩ => ⟨S5, .i32⟩
  | .hbm, ⟨15, _⟩ => ⟨S5, .i32⟩
  | .hbm, ⟨16, _⟩ => ⟨S_, .i32⟩
  | .hbm, ⟨17, _⟩ => ⟨S5, .i32⟩
  | .hbm, ⟨18, _⟩ => ⟨S5, .i1⟩
  | .hbm, ⟨19, _⟩ => ⟨S5, .i32⟩
  | .hbm, ⟨20, _⟩ => ⟨S5, .i32⟩
  | .hbm, ⟨21, _⟩ => ⟨S_, .i32⟩
  | .hbm, ⟨22, _⟩ => ⟨S5, .i32⟩
  | .hbm, ⟨23, _⟩ => ⟨S5, .i1⟩
  | .hbm, ⟨24, _⟩ => ⟨S5, .i1⟩
  | .hbm, ⟨25, _⟩ => ⟨S_, .i32⟩
  | .hbm, ⟨26, _⟩ => ⟨S5, .i32⟩
  | .hbm, ⟨27, _⟩ => ⟨S5, .i32⟩
  | .hbm, ⟨28, _⟩ => ⟨S5, .i32⟩
  | .hbm, ⟨29, _⟩ => ⟨S_, .i32⟩
  | .hbm, ⟨30, _⟩ => ⟨S5, .i32⟩
  | .hbm, ⟨31, _⟩ => ⟨S5, .i32⟩
  | .hbm, ⟨32, _⟩ => ⟨S_, .i32⟩
  | .hbm, ⟨33, _⟩ => ⟨S5, .i32⟩
  | .hbm, ⟨34, _⟩ => ⟨S5, .i32⟩
  | .hbm, ⟨35, _⟩ => ⟨S_, .i32⟩
  | .hbm, ⟨36, _⟩ => ⟨S_, .i32⟩
  | .hbm, ⟨37, _⟩ => ⟨S5, .i32⟩
  | .hbm, ⟨38, _⟩ => ⟨S5, .i32⟩
  | .hbm, ⟨39, _⟩ => ⟨S5, .i32⟩
  | .hbm, ⟨40, _⟩ => ⟨S_, .i32⟩
  | .hbm, ⟨41, _⟩ => ⟨S5, .i32⟩
  | .hbm, ⟨42, _⟩ => ⟨S5, .i1⟩
  | .hbm, ⟨43, _⟩ => ⟨S5, .i32⟩
  | .hbm, ⟨44, _⟩ => ⟨S5, .i32⟩
  | .hbm, ⟨45, _⟩ => ⟨S_, .i32⟩
  | .hbm, ⟨46, _⟩ => ⟨S5, .i32⟩
  | .hbm, ⟨47, _⟩ => ⟨S5, .i1⟩
  | .hbm, ⟨48, _⟩ => ⟨S5, .i1⟩
  | .hbm, ⟨49, _⟩ => ⟨S_, .i32⟩
  | .hbm, ⟨50, _⟩ => ⟨S5, .i32⟩
  | .hbm, ⟨51, _⟩ => ⟨S5, .i32⟩
  | .hbm, ⟨52, _⟩ => ⟨S5, .i32⟩
  | .hbm, ⟨53, _⟩ => ⟨S5, .i32⟩
  | .hbm, ⟨54, _⟩ => ⟨S5, .i32⟩
  | .hbm, ⟨55, _⟩ => ⟨S_, .i32⟩
  | .hbm, ⟨56, _⟩ => ⟨S_, .i32⟩
  | .hbm, ⟨57, _⟩ => ⟨S5, .i32⟩
  | .hbm, ⟨58, _⟩ => ⟨S36, .i32⟩
  | .hbm, ⟨59, _⟩ => ⟨S1, .i32⟩
  | .hbm, ⟨60, _⟩ => ⟨S_, .i32⟩
  | .hbm, ⟨61, _⟩ => ⟨S_, .i32⟩
  | .hbm, ⟨62, _⟩ => ⟨S_, .i32⟩
  | .hbm, ⟨63, _⟩ => ⟨S36, .i32⟩
  | .hbm, ⟨64, _⟩ => ⟨S36, .i32⟩
  | .hbm, ⟨65, _⟩ => ⟨S36x1, .i32⟩
  | .hbm, ⟨66, _⟩ => ⟨S1x5, .i32⟩
  | .hbm, ⟨67, _⟩ => ⟨S36x5, .i32⟩
  | .hbm, ⟨68, _⟩ => ⟨S36x5, .i32⟩
  | .hbm, ⟨69, _⟩ => ⟨S36x5, .i1⟩
  | .hbm, ⟨70, _⟩ => ⟨S36x5, .i32⟩
  | .hbm, ⟨71, _⟩ => ⟨S_, .i32⟩
  | .hbm, ⟨72, _⟩ => ⟨S_, .i32⟩
  | .hbm, ⟨73, _⟩ => ⟨S36, .i32⟩
  | .hbm, ⟨74, _⟩ => ⟨S36, .i1⟩
  | .hbm, ⟨75, _⟩ => ⟨S_, .i32⟩
  | .hbm, ⟨76, _⟩ => ⟨S36, .i32⟩
  | .hbm, ⟨77, _⟩ => ⟨S36, .i32⟩
  | .hbm, ⟨78, _⟩ => ⟨S36, .i32⟩
  | .hbm, ⟨79, _⟩ => ⟨S36x1, .i32⟩
  | .hbm, ⟨80, _⟩ => ⟨S36, .i32⟩
  | .hbm, ⟨81, _⟩ => ⟨S36, .i32⟩
  | .hbm, ⟨82, _⟩ => ⟨S5, .i32⟩
  | .hbm, ⟨83, _⟩ => ⟨S_, .i32⟩
  | .hbm, ⟨84, _⟩ => ⟨S36, .i32⟩
  | .hbm, ⟨85, _⟩ => ⟨S36, .i1⟩
  | .hbm, ⟨86, _⟩ => ⟨S_, .i32⟩
  | .hbm, ⟨87, _⟩ => ⟨S36, .i32⟩
  | .hbm, ⟨88, _⟩ => ⟨S36, .i32⟩
  | .hbm, ⟨89, _⟩ => ⟨S36, .i32⟩
  | .hbm, ⟨90, _⟩ => ⟨S36x1, .i32⟩
  | .hbm, ⟨91, _⟩ => ⟨S36, .i32⟩
  | .hbm, ⟨92, _⟩ => ⟨S_, .i32⟩
  | .hbm, ⟨93, _⟩ => ⟨S36, .i32⟩
  | .hbm, ⟨94, _⟩ => ⟨S36, .i1⟩
  | .hbm, ⟨95, _⟩ => ⟨S_, .i32⟩
  | .hbm, ⟨96, _⟩ => ⟨S36, .i32⟩
  | .hbm, ⟨97, _⟩ => ⟨S36, .i32⟩
  | .hbm, ⟨98, _⟩ => ⟨S36, .i32⟩
  | .hbm, ⟨99, _⟩ => ⟨S36x1, .i32⟩
  | .hbm, ⟨100, _⟩ => ⟨S_, .i32⟩
  | .hbm, ⟨101, _⟩ => ⟨S36, .i32⟩
  | .hbm, ⟨102, _⟩ => ⟨S36, .i1⟩
  | .hbm, ⟨103, _⟩ => ⟨S_, .i32⟩
  | .hbm, ⟨104, _⟩ => ⟨S36, .i32⟩
  | .hbm, ⟨105, _⟩ => ⟨S36, .i32⟩
  | .hbm, ⟨106, _⟩ => ⟨S36, .i32⟩
  | .hbm, ⟨107, _⟩ => ⟨S36x1, .i32⟩
  | .hbm, ⟨108, _⟩ => ⟨S_, .i32⟩
  | .hbm, ⟨109, _⟩ => ⟨S5x1x1536, .f32⟩
  | .hbm, ⟨110, _⟩ => ⟨S8192x1536, .bf16⟩
  | .local _ .vmem, ⟨0, _⟩ => ⟨S256x16384, .bf16⟩
  | .local _ .vmem, ⟨1, _⟩ => ⟨S256x16384, .bf16⟩
  | .local _ .vmem, ⟨2, _⟩ => ⟨S1x512x16384, .fp8e4m3⟩
  | .local _ .vmem, ⟨3, _⟩ => ⟨S1x512x16384, .fp8e4m3⟩
  | .local _ .vmem, ⟨4, _⟩ => ⟨S1x1x512, .f32⟩
  | .local _ .vmem, ⟨5, _⟩ => ⟨S1x1x512, .f32⟩
  | .local _ .vmem, ⟨6, _⟩ => ⟨S256x1536, .bf16⟩
  | .local _ .vmem, ⟨7, _⟩ => ⟨S256x1536, .bf16⟩
  | .local _ .vmem, ⟨8, _⟩ => ⟨S256x16384, .fp8e5m2⟩
  | .local _ .vmem, ⟨9, _⟩ => ⟨S256x128, .f32⟩
  | .local _ .smem, ⟨0, _⟩ => ⟨S36, .i32⟩
  | .local _ .smem, ⟨1, _⟩ => ⟨S36, .i32⟩
  | .local _ .smem, ⟨2, _⟩ => ⟨S36, .i32⟩
  | .local _ .smem, ⟨3, _⟩ => ⟨S36, .i32⟩
  | .local _ .smem, ⟨4, _⟩ => ⟨S36, .i32⟩
  | _, _ => ⟨S8192x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_call0_c : Ref sig .tc := ⟨.hbm, 4, rfl⟩
abbrev main_call0_call0_v0 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_call1_v0 : Ref sig .tc := ⟨.hbm, 12, rfl⟩
abbrev main_call1_v1 : Ref sig .tc := ⟨.hbm, 13, rfl⟩
abbrev main_call1_v2 : Ref sig .tc := ⟨.hbm, 14, rfl⟩
abbrev main_call1_v3 : Ref sig .tc := ⟨.hbm, 15, rfl⟩
abbrev main_call1_v4 : Ref sig .tc := ⟨.hbm, 16, rfl⟩
abbrev main_call1_v5 : Ref sig .tc := ⟨.hbm, 17, rfl⟩
abbrev main_call1_v6 : Ref sig .tc := ⟨.hbm, 18, rfl⟩
abbrev main_call1_v7 : Ref sig .tc := ⟨.hbm, 19, rfl⟩
abbrev main_call1_v8 : Ref sig .tc := ⟨.hbm, 20, rfl⟩
abbrev main_call1_c : Ref sig .tc := ⟨.hbm, 21, rfl⟩
abbrev main_call1_v9 : Ref sig .tc := ⟨.hbm, 22, rfl⟩
abbrev main_call1_v10 : Ref sig .tc := ⟨.hbm, 23, rfl⟩
abbrev main_call1_v11 : Ref sig .tc := ⟨.hbm, 24, rfl⟩
abbrev main_call1_c_0 : Ref sig .tc := ⟨.hbm, 25, rfl⟩
abbrev main_call1_v12 : Ref sig .tc := ⟨.hbm, 26, rfl⟩
abbrev main_call1_v13 : Ref sig .tc := ⟨.hbm, 27, rfl⟩
abbrev main_v4 : Ref sig .tc := ⟨.hbm, 28, rfl⟩
abbrev main_c_1 : Ref sig .tc := ⟨.hbm, 29, rfl⟩
abbrev main_v5 : Ref sig .tc := ⟨.hbm, 30, rfl⟩
abbrev main_v6 : Ref sig .tc := ⟨.hbm, 31, rfl⟩
abbrev main_c_2 : Ref sig .tc := ⟨.hbm, 32, rfl⟩
abbrev main_v7 : Ref sig .tc := ⟨.hbm, 33, rfl⟩
abbrev main_v8 : Ref sig .tc := ⟨.hbm, 34, rfl⟩
abbrev main_c_3 : Ref sig .tc := ⟨.hbm, 35, rfl⟩
abbrev main_call2_v0 : Ref sig .tc := ⟨.hbm, 36, rfl⟩
abbrev main_call2_v1 : Ref sig .tc := ⟨.hbm, 37, rfl⟩
abbrev main_call2_v2 : Ref sig .tc := ⟨.hbm, 38, rfl⟩
abbrev main_call2_v3 : Ref sig .tc := ⟨.hbm, 39, rfl⟩
abbrev main_call2_v4 : Ref sig .tc := ⟨.hbm, 40, rfl⟩
abbrev main_call2_v5 : Ref sig .tc := ⟨.hbm, 41, rfl⟩
abbrev main_call2_v6 : Ref sig .tc := ⟨.hbm, 42, rfl⟩
abbrev main_call2_v7 : Ref sig .tc := ⟨.hbm, 43, rfl⟩
abbrev main_call2_v8 : Ref sig .tc := ⟨.hbm, 44, rfl⟩
abbrev main_call2_c : Ref sig .tc := ⟨.hbm, 45, rfl⟩
abbrev main_call2_v9 : Ref sig .tc := ⟨.hbm, 46, rfl⟩
abbrev main_call2_v10 : Ref sig .tc := ⟨.hbm, 47, rfl⟩
abbrev main_call2_v11 : Ref sig .tc := ⟨.hbm, 48, rfl⟩
abbrev main_call2_c_0 : Ref sig .tc := ⟨.hbm, 49, rfl⟩
abbrev main_call2_v12 : Ref sig .tc := ⟨.hbm, 50, rfl⟩
abbrev main_call2_v13 : Ref sig .tc := ⟨.hbm, 51, rfl⟩
abbrev main_v9 : Ref sig .tc := ⟨.hbm, 52, rfl⟩
abbrev main_v10 : Ref sig .tc := ⟨.hbm, 53, rfl⟩
abbrev main_v11 : Ref sig .tc := ⟨.hbm, 54, rfl⟩
abbrev main_call4_call0_c : Ref sig .tc := ⟨.hbm, 55, rfl⟩
abbrev main_call4_call0_v0 : Ref sig .tc := ⟨.hbm, 56, rfl⟩
abbrev main_v12 : Ref sig .tc := ⟨.hbm, 57, rfl⟩
abbrev main_v13 : Ref sig .tc := ⟨.hbm, 58, rfl⟩
abbrev main_v14 : Ref sig .tc := ⟨.hbm, 59, rfl⟩
abbrev main_v15 : Ref sig .tc := ⟨.hbm, 60, rfl⟩
abbrev main_c_4 : Ref sig .tc := ⟨.hbm, 61, rfl⟩
abbrev main_v16 : Ref sig .tc := ⟨.hbm, 62, rfl⟩
abbrev main_v17 : Ref sig .tc := ⟨.hbm, 63, rfl⟩
abbrev main_v18 : Ref sig .tc := ⟨.hbm, 64, rfl⟩
abbrev main_v19 : Ref sig .tc := ⟨.hbm, 65, rfl⟩
abbrev main_v20 : Ref sig .tc := ⟨.hbm, 66, rfl⟩
abbrev main_v21 : Ref sig .tc := ⟨.hbm, 67, rfl⟩
abbrev main_v22 : Ref sig .tc := ⟨.hbm, 68, rfl⟩
abbrev main_v23 : Ref sig .tc := ⟨.hbm, 69, rfl⟩
abbrev main_v24 : Ref sig .tc := ⟨.hbm, 70, rfl⟩
abbrev main_c_5 : Ref sig .tc := ⟨.hbm, 71, rfl⟩
abbrev main_c_6 : Ref sig .tc := ⟨.hbm, 72, rfl⟩
abbrev main_v26 : Ref sig .tc := ⟨.hbm, 73, rfl⟩
abbrev main_v27 : Ref sig .tc := ⟨.hbm, 74, rfl⟩
abbrev main_c_7 : Ref sig .tc := ⟨.hbm, 75, rfl⟩
abbrev main_v28 : Ref sig .tc := ⟨.hbm, 76, rfl⟩
abbrev main_v29 : Ref sig .tc := ⟨.hbm, 77, rfl⟩
abbrev main_v30 : Ref sig .tc := ⟨.hbm, 78, rfl⟩
abbrev main_v31 : Ref sig .tc := ⟨.hbm, 79, rfl⟩
abbrev main_v32 : Ref sig .tc := ⟨.hbm, 80, rfl⟩
abbrev main_v33 : Ref sig .tc := ⟨.hbm, 81, rfl⟩
abbrev main_v34 : Ref sig .tc := ⟨.hbm, 82, rfl⟩
abbrev main_c_8 : Ref sig .tc := ⟨.hbm, 83, rfl⟩
abbrev main_v35 : Ref sig .tc := ⟨.hbm, 84, rfl⟩
abbrev main_v36 : Ref sig .tc := ⟨.hbm, 85, rfl⟩
abbrev main_c_9 : Ref sig .tc := ⟨.hbm, 86, rfl⟩
abbrev main_v37 : Ref sig .tc := ⟨.hbm, 87, rfl⟩
abbrev main_v38 : Ref sig .tc := ⟨.hbm, 88, rfl⟩
abbrev main_v39 : Ref sig .tc := ⟨.hbm, 89, rfl⟩
abbrev main_v40 : Ref sig .tc := ⟨.hbm, 90, rfl⟩
abbrev main_v41 : Ref sig .tc := ⟨.hbm, 91, rfl⟩
abbrev main_c_10 : Ref sig .tc := ⟨.hbm, 92, rfl⟩
abbrev main_v43 : Ref sig .tc := ⟨.hbm, 93, rfl⟩
abbrev main_v44 : Ref sig .tc := ⟨.hbm, 94, rfl⟩
abbrev main_c_11 : Ref sig .tc := ⟨.hbm, 95, rfl⟩
abbrev main_v45 : Ref sig .tc := ⟨.hbm, 96, rfl⟩
abbrev main_v46 : Ref sig .tc := ⟨.hbm, 97, rfl⟩
abbrev main_v47 : Ref sig .tc := ⟨.hbm, 98, rfl⟩
abbrev main_v48 : Ref sig .tc := ⟨.hbm, 99, rfl⟩
abbrev main_c_12 : Ref sig .tc := ⟨.hbm, 100, rfl⟩
abbrev main_v50 : Ref sig .tc := ⟨.hbm, 101, rfl⟩
abbrev main_v51 : Ref sig .tc := ⟨.hbm, 102, rfl⟩
abbrev main_c_13 : Ref sig .tc := ⟨.hbm, 103, rfl⟩
abbrev main_v52 : Ref sig .tc := ⟨.hbm, 104, rfl⟩
abbrev main_v53 : Ref sig .tc := ⟨.hbm, 105, rfl⟩
abbrev main_v54 : Ref sig .tc := ⟨.hbm, 106, rfl⟩
abbrev main_v55 : Ref sig .tc := ⟨.hbm, 107, rfl⟩
abbrev main_c_14 : Ref sig .tc := ⟨.hbm, 108, rfl⟩
abbrev main_v58 : Ref sig .tc := ⟨.hbm, 109, rfl⟩
abbrev main_v59 : Ref sig .tc := ⟨.hbm, 110, rfl⟩
abbrev main_v25 : Ref sig .tc := ⟨.smem, 0, rfl⟩
abbrev main_v42 : Ref sig .tc := ⟨.smem, 1, rfl⟩
abbrev main_v49 : Ref sig .tc := ⟨.smem, 2, rfl⟩
abbrev main_v56 : Ref sig .tc := ⟨.smem, 3, rfl⟩
abbrev main_v57 : Ref sig .tc := ⟨.smem, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![36, 3], ![false, false]⟩

abbrev pre0 : Pipeline.Prefetch sig := ⟨5, ![main_v25.idx, main_v42.idx, main_v49.idx, main_v56.idx, main_v57.idx], fun | 0 => main_v25.names | 1 => main_v42.names | 2 => main_v49.names | 3 => main_v56.names | 4 => main_v57.names | ⟨_ + 5, h⟩ => absurd h (Nat.not_lt.2 (Nat.le_add_left _ _)), fun | 0 => rfl | 1 => rfl | 2 => rfl | 3 => rfl | 4 => rfl | ⟨_ + 5, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_mult1 (i : grid0.Coords) : BitVec 32 :=
  let arg1 : BitVec 32 := BitVec.ofNat 32 (i 1).val
  let c512_i32 : BitVec 32 := 512#32
  let v30 : BitVec 32 := Scalar.muli arg1 c512_i32
  v30
def k0_off2 (i : grid0.Coords) : Fin 2 → Nat :=
  let c0_10 : Index := 0#32
  let arg1 : BitVec 32 := BitVec.ofNat 32 (i 1).val
  let c512_i32 : BitVec 32 := 512#32
  let v30 : BitVec 32 := Scalar.muli arg1 c512_i32
  let v31 : BitVec 32 := v30
  let v32 : Index := Scalar.indexCast v31
  ![0, v32.toNat]
def cc0_transform_0 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg0
  let v1 : BitVec 32 := pf.at 1 (Rect.unit (s := S36) ![v0.toNat] S1.size (k0_off1_inb i)) numel1_S1
  let c0_i32 : BitVec 32 := 0#32
  let c0_i32_0 : BitVec 32 := 0#32
  ![v1.toNat, c0_i32.toNat]

def cc0_transform_1 (k0_off1_inb : ∀ i : grid0.Coords, ∀ a, (k0_off1 i) a + S1.size a ≤ S36.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S36) ![v0.toNat] S1.size (k0_off1_inb i)) numel1_S1
  let c0_i32 : BitVec 32 := 0#32
  let c0_i32_0 : BitVec 32 := 0#32
  ![v1.toNat, arg1.toNat, c0_i32.toNat]

def cc0_transform_2 (k0_off1_inb : ∀ i : grid0.Coords, ∀ a, (k0_off1 i) a + S1.size a ≤ S36.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S36) ![v0.toNat] S1.size (k0_off1_inb i)) numel1_S1
  let c0_i32 : BitVec 32 := 0#32
  let c0_i32_0 : BitVec 32 := 0#32
  ![v1.toNat, c0_i32.toNat, arg1.toNat]

def cc0_transform_3 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg0
  let v1 : BitVec 32 := pf.at 1 (Rect.unit (s := S36) ![v0.toNat] S1.size (k0_off1_inb i)) numel1_S1
  let c0_i32 : BitVec 32 := 0#32
  let c0_i32_0 : BitVec 32 := 0#32
  ![v1.toNat, c0_i32.toNat]

abbrev stage0_0 : Fin 2 → Memref sig .tc .vmem S256x16384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x512x16384 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x1536 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== ReferenceIdeal.lean ====
abbrev S8192x16384 : Shape := ⟨2, ![8192, 16384]⟩
abbrev S5 : Shape := ⟨1, ![5]⟩
abbrev S5x1536x16384 : Shape := ⟨3, ![5, 1536, 16384]⟩
abbrev S5x1536 : Shape := ⟨2, ![5, 1536]⟩
abbrev S8192x1536 : Shape := ⟨2, ![8192, 1536]⟩
abbrev S8192 : Shape := ⟨1, ![8192]⟩
abbrev S8192x1 : Shape := ⟨2, ![8192, 1]⟩
abbrev S1 : Shape := ⟨1, ![1]⟩
abbrev S1x1536x16384 : Shape := ⟨3, ![1, 1536, 16384]⟩
abbrev S1536x16384 : Shape := ⟨2, ![1536, 16384]⟩
abbrev S1x1536 : Shape := ⟨2, ![1, 1536]⟩

abbrev nBuf : Space → Nat
  | .hbm => 5
  | .vmem => 4
  | .smem => 1
  | _ => 0

abbrev bufTy : (tb : Table) → Fin (tcTables nBuf tb) → BufTy
  | .hbm, ⟨0, _⟩ => ⟨S8192x16384, .bf16⟩
  | .hbm, ⟨1, _⟩ => ⟨S5, .i32⟩
  | .hbm, ⟨2, _⟩ => ⟨S5x1536x16384, .fp8e4m3⟩
  | .hbm, ⟨3, _⟩ => ⟨S5x1536, .f32⟩
  | .hbm, ⟨4, _⟩ => ⟨S8192x1536, .bf16⟩
  | .local _ .vmem, ⟨0, _⟩ => ⟨S8192x16384, .bf16⟩
  | .local _ .vmem, ⟨1, _⟩ => ⟨S5x1536x16384, .fp8e4m3⟩
  | .local _ .vmem, ⟨2, _⟩ => ⟨S5x1536, .f32⟩
  | .local _ .vmem, ⟨3, _⟩ => ⟨S8192x1536, .bf16⟩
  | .local _ .smem, ⟨0, _⟩ => ⟨S5, .i32⟩
  | _, _ => ⟨S8192x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .smem, ⟨0, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .smem S5 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8192x16384 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S5x1536x16384 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S5x1536 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8192x1536 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.KPoints.lean ====
/- The staging buffers of each window at a grid point, and the body as the pipeline calls it there. -/
module

public import proofs.«01_k».proof.Proof.Gen.Kernel
public import Idealize.ShloMosaic.Lib.Pipeline.Kit

@[expose] public section

noncomputable section

namespace Cert.Kernel.Run

open Cert.Kernel.Gen

open Idealize.ShloMosaic Idealize.ShloMosaic.TcCoe
open Idealize.SL Idealize.SL.Sem

variable {F : FTy → Type} [FloatOps F]
/-! ## custom_call 0 -/

/-! A call with PREFETCHED TABLES: its memrefs and body are stated over the pipeline at ANY admissible contents `a`
    of the tables (a certificate instantiates them at the contents it reads off the launch memory). A window whose
    index map reads no table has the same schedule at every `a`: stated over the grid, the window's direction and
    that map alone (Lib/Pipeline/Kit.lean `Window.fetchOf` / `flushOf`), proved from the map and the fact about the
    axes it reads (`hreadsK_W`) or decided, and restated over the pinned window, which unfolds to them. A window whose
    map reads a table gets none here. -/

-- window 0: no schedule fact — its index map reads a prefetched table, so where it is fetched or written back depends on the tables' contents
-- window 1: no schedule fact — its index map reads a prefetched table, so where it is fetched or written back depends on the tables' contents
-- window 2: no schedule fact — its index map reads a prefetched table, so where it is fetched or written back depends on the tables' contents
-- window 3: no schedule fact — its index map reads a prefetched table, so where it is fetched or written back depends on the tables' contents

/-- The current staging memref of each window at point `t`: which of its buffers it is on. -/
abbrev st0_0 (a : (pcfg0 (F := F)).Adm) (t : Fin (cfg0 a).N) := ((cfg0 a).win 0).stage ((cfg0 a).slots t 0)
/-- The second window's staging buffer at a point. -/
abbrev st0_1 (a : (pcfg0 (F := F)).Adm) (t : Fin (cfg0 a).N) := ((cfg0 a).win 1).stage ((cfg0 a).slots t 1)
/-- The third window's staging buffer at a point. -/
abbrev st0_2 (a : (pcfg0 (F := F)).Adm) (t : Fin (cfg0 a).N) := ((cfg0 a).win 2).stage ((cfg0 a).slots t 2)
/-- The fourth window's staging buffer at a point. -/
abbrev st0_3 (a : (pcfg0 (F := F)).Adm) (t : Fin (cfg0 a).N) := ((cfg0 a).win 3).stage ((cfg0 a).slots t 3)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_dgrad (grid0.coords t) (Memref.whole main_v25) (Memref.isWhole_whole _) (Memref.whole main_v42) (Memref.isWhole_whole _) (Memref.whole main_v49) (Memref.isWhole_whole _) (Memref.whole main_v56) (Memref.isWhole_whole _) (Memref.whole main_v57) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (Memref.whole cc0_scratch0) (Memref.isWhole_whole _) (Memref.whole cc0_scratch1) (Memref.isWhole_whole _)

end Cert.Kernel.Run

end
-- ==== Proof.KRuns.lean ====
/- What the region finds: the host operations before it, the prefetched tables, the windows' blocks at a point. -/
module

public import proofs.«01_k».proof.Proof.KPoints
public import proofs.«01_k».proof.Proof.Gen.Kernel.Launch
public import proofs.«01_k».proof.Proof.Gen.Kernel.Skeleton
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Kernel.Run

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)
/-! ## @main up to the region -/

/-- Core `c`'s TensorCore buffers when the region is entered: after the host operations `hostOps0`, `hostOps0_1`, `hostOps0_2`, `hostOps0_3`, `hostOps0_4`, `hostOps0_5`, `hostOps0_6`, `hostOps0_7`, `hostOps0_8`. -/
abbrev V (c : Dev nD) (b : Ref sig .tc) : Buf (Elt F) ((c : Thread nD τ).loc b) :=
  StableHlo.after (List.flatten [hostOps0, hostOps0_1, hostOps0_2, hostOps0_3, hostOps0_4, hostOps0_5, hostOps0_6, hostOps0_7, hostOps0_8]) (fun b => m (c, b)) b

/-- No operation of this run before the launch needs a fresh buffer. -/
theorem hostOps0_fresh : (hostOps0 : List (HloOp τ sig (Elt F))).Forall fun op => op.fresh = ∅ := by
  simp only [List.Forall]; repeat' constructor
/-- No operation of this run before the launch needs a fresh buffer. -/
theorem hostOps0_1_fresh : (hostOps0_1 : List (HloOp τ sig (Elt F))).Forall fun op => op.fresh = ∅ := by
  simp only [List.Forall]; repeat' constructor
/-- No operation of this run before the launch needs a fresh buffer. -/
theorem hostOps0_2_fresh : (hostOps0_2 : List (HloOp τ sig (Elt F))).Forall fun op => op.fresh = ∅ := by
  simp only [List.Forall]; repeat' constructor
/-- No operation of this run before the launch needs a fresh buffer. -/
theorem hostOps0_3_fresh : (hostOps0_3 : List (HloOp τ sig (Elt F))).Forall fun op => op.fresh = ∅ := by
  simp only [List.Forall]; repeat' constructor
/-- No operation of this run before the launch needs a fresh buffer. -/
theorem hostOps0_4_fresh : (hostOps0_4 : List (HloOp τ sig (Elt F))).Forall fun op => op.fresh = ∅ := by
  simp only [List.Forall]; repeat' constructor
/-- No operation of this run before the launch needs a fresh buffer. -/
theorem hostOps0_5_fresh : (hostOps0_5 : List (HloOp τ sig (Elt F))).Forall fun op => op.fresh = ∅ := by
  simp only [List.Forall]; repeat' constructor
/-- No operation of this run before the launch needs a fresh buffer. -/
theorem hostOps0_6_fresh : (hostOps0_6 : List (HloOp τ sig (Elt F))).Forall fun op => op.fresh = ∅ := by
  simp only [List.Forall]; repeat' constructor
/-- No operation of this run before the launch needs a fresh buffer. -/
theorem hostOps0_7_fresh : (hostOps0_7 : List (HloOp τ sig (Elt F))).Forall fun op => op.fresh = ∅ := by
  simp only [List.Forall]; repeat' constructor
/-- No operation of this run before the launch needs a fresh buffer. -/
theorem hostOps0_8_fresh : (hostOps0_8 : List (HloOp τ sig (Elt F))).Forall fun op => op.fresh = ∅ := by
  simp only [List.Forall]; repeat' constructor

set_option maxHeartbeats 800000 in
/-- @main up to the region, at the certificate's variants `𝒱₀`: the lines of host operations then the region
    (`Pipeline.hmain_prefixes`, off `main_chain`). -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefixes pcfgs 0 defs₀ 𝒱₀ m main [hostOps0, hostOps0_1, hostOps0_2, hostOps0_3, hostOps0_4, hostOps0_5, hostOps0_6, hostOps0_7, hostOps0_8] (by simp only [List.Forall]; exact ⟨hostOps0_sub, hostOps0_1_sub, hostOps0_2_sub, hostOps0_3_sub, hostOps0_4_sub, hostOps0_5_sub, hostOps0_6_sub, hostOps0_7_sub, hostOps0_8_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh⟩) main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 5) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
/-- The pipeline at these tables. -/
abbrev cfgM (hO : Ok m) : Pipeline.Cfg sig Λ₀ := cfg0 (adm m hO)

/-- Each table as the body is handed it: its whole buffer as a memref, and that memref's wholeness. -/
abbrev tbM0_0 : Memref sig .tc .smem S36 .i32 := Memref.whole main_v25
/-- The table is its whole buffer. -/
abbrev htbM0_0 : tbM0_0.IsWhole := Memref.isWhole_whole _
/-- The table as the body is handed it. -/
abbrev tbM0_1 : Memref sig .tc .smem S36 .i32 := Memref.whole main_v42
/-- The table is its whole buffer. -/
abbrev htbM0_1 : tbM0_1.IsWhole := Memref.isWhole_whole _
/-- The table as the body is handed it. -/
abbrev tbM0_2 : Memref sig .tc .smem S36 .i32 := Memref.whole main_v49
/-- The table is its whole buffer. -/
abbrev htbM0_2 : tbM0_2.IsWhole := Memref.isWhole_whole _
/-- The table as the body is handed it. -/
abbrev tbM0_3 : Memref sig .tc .smem S36 .i32 := Memref.whole main_v56
/-- The table is its whole buffer. -/
abbrev htbM0_3 : tbM0_3.IsWhole := Memref.isWhole_whole _
/-- The table as the body is handed it. -/
abbrev tbM0_4 : Memref sig .tc .smem S36 .i32 := Memref.whole main_v57
/-- The table is its whole buffer. -/
abbrev htbM0_4 : tbM0_4.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
/-- The table held at half the full share. -/
abbrev tbPt0 (c : Dev nD) {S : Shape} {e : EltTy} (M : Memref sig .tc .smem S e) (f : TbBuf0 (F := F) c M) : sProp (MT nD τ sig Unit (Elt F) ℕ (UR sig nD τ) ℕ) :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp (MT nD τ sig Unit (Elt F) ℕ (UR sig nD τ) ℕ)) = iprop(tbPt0 c tbM0_0 (tbl m 0) ∗ tbPt0 c tbM0_1 (tbl m 1) ∗ tbPt0 c tbM0_2 (tbl m 2) ∗ tbPt0 c tbM0_3 (tbl m 3) ∗ tbPt0 c tbM0_4 (tbl m 4)) := by
  unfold Pipeline.ΦT Pipeline.prefHeld
  rw [show (Finset.univ : Finset (Fin 5)) = insert (0 : Fin 5) (insert (1 : Fin 5) (insert (2 : Fin 5) (insert (3 : Fin 5) {(4 : Fin 5)}))) from by decide,
    bigSep_insert (by decide), bigSep_insert (by decide), bigSep_insert (by decide), bigSep_insert (by decide), bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Kernel`, Defs.lean, at any `F`). -/
theorem frame_of (hO : Ok m) (rdat : (c : Dev nD) → Pipeline.RDat τ (Elt F) Unit ℕ (UR sig nD τ) ℕ ((Pipeline.pin pcfgs fun _ => adm m hO) 0) c)
    (hA : ∀ c w, (rdat c).A w = V m c (Pipeline.arrRef spec0 w))
    (h : θ_run defs (onTc (τ := τ) (main (F := F))) (s₀ m ρ) (Pipeline.RDat.FramePost ((Pipeline.pin pcfgs fun _ => adm m hO) 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(Pipeline.RDat.FramePost.arr_in h c 0 rfl).trans ((hA c 0).trans (V_main_arg0 m c)),
      ((h c).2 main_arg1 (by decide : main_arg1 ∈ Pipeline.restRefs sig spec0)).trans (V_main_arg1 m c),
      (Pipeline.RDat.FramePost.arr_in h c 1 rfl).trans ((hA c 1).trans (V_main_arg2 m c)),
      ((h c).2 main_arg3 (by decide : main_arg3 ∈ Pipeline.restRefs sig spec0)).trans (V_main_arg3 m c)⟩) h

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 1).val) 0#32)) 0#32) = 1#1
/-- It holds at the points ≡ 0 (mod 3) — by arithmetic of the point. -/
theorem hcond0_0 : ∀ t : Fin grid0.N, cond0_0 (grid0.coords t) ↔ t.val % 3 = 0 :=
  (fun t => by
    have ht : t.val < 108 := Nat.lt_of_lt_of_eq t.isLt N_0
    have e0 : (grid0.coords t 0).val = t.val / 3 % 36 := Pipeline.Grid.coords_val t 0 (by decide) rfl
    have e1 : (grid0.coords t 1).val = t.val / 1 % 3 := Pipeline.Grid.coords_val t 1 (by decide) rfl
    simp only [cond0_0, e0, e1]
    word_cmp
   : ∀ t : Fin grid0.N, cond0_0 (grid0.coords t) ↔ t.val % 3 = 0)

/-! ## The kernel body on any staging memrefs: a subtype the run finds -/

/-- Each window's current staging memref at point `t`, spelled as the pipeline passes it (`bodyAt0`), and its wholeness. -/
abbrev ms0_0 (hO : Ok m) (t : Fin (cfgM m hO).N) : Memref sig .tc .vmem S256x16384 .bf16 := spec0_0.stage ((cfgM m hO).slots t 0)
/-- The staging buffer is whole. -/
abbrev hs0_0 (hO : Ok m) (t : Fin (cfgM m hO).N) : (ms0_0 m hO t).IsWhole := hstage0_0 (((cfgM m hO).slots t 0).cast nbuf0_0)
/-- The window's staging buffer at a point. -/
abbrev ms0_1 (hO : Ok m) (t : Fin (cfgM m hO).N) : Memref sig .tc .vmem S1x512x16384 .fp8e4m3 := spec0_1.stage ((cfgM m hO).slots t 1)
/-- The staging buffer is whole. -/
abbrev hs0_1 (hO : Ok m) (t : Fin (cfgM m hO).N) : (ms0_1 m hO t).IsWhole := hstage0_1 (((cfgM m hO).slots t 1).cast nbuf0_1)
/-- The window's staging buffer at a point. -/
abbrev ms0_2 (hO : Ok m) (t : Fin (cfgM m hO).N) : Memref sig .tc .vmem S1x1x512 .f32 := spec0_2.stage ((cfgM m hO).slots t 2)
/-- The staging buffer is whole. -/
abbrev hs0_2 (hO : Ok m) (t : Fin (cfgM m hO).N) : (ms0_2 m hO t).IsWhole := hstage0_2 (((cfgM m hO).slots t 2).cast nbuf0_2)
/-- The window's staging buffer at a point. -/
abbrev ms0_3 (hO : Ok m) (t : Fin (cfgM m hO).N) : Memref sig .tc .vmem S256x1536 .bf16 := spec0_3.stage ((cfgM m hO).slots t 3)
/-- The staging buffer is whole. -/
abbrev hs0_3 (hO : Ok m) (t : Fin (cfgM m hO).N) : (ms0_3 m hO t).IsWhole := hstage0_3 (((cfgM m hO).slots t 3).cast nbuf0_3)
/-- The scratch operands: whole scoped buffers of the kernel's own, passed beside the windows. -/
abbrev scM0_0 : Memref sig .tc .vmem S256x16384 .fp8e5m2 := Memref.whole cc0_scratch0
/-- The scratch of scales. -/
abbrev scM0_1 : Memref sig .tc .vmem S256x128 .f32 := Memref.whole cc0_scratch1

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp (MT nD τ sig Unit (Elt F) ℕ (UR sig nD τ) ℕ))
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.Kernel.Run

end
-- ==== Proof.KRunA.lean ====
/- The body at a point whose column block is the first: it quantises its tile, then multiplies. The output is forgotten. -/
module

public import proofs.«01_k».proof.Proof.KRuns

@[expose] public section

-- membership in a rectangle of production extents (`View.cover_of_tiled`): the elaborator's structural look
-- recurses once per coordinate of the long axes
set_option maxRecDepth 16384

noncomputable section

namespace Cert.Kernel.Run

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

-- (the run's proof term is large: checking it walks past the default budget)
set_option maxHeartbeats 1000000 in
/-- The body's triple IN CASE A (`scf.if` 0 taken: points 0, 3, … 105: 36 of 108): on whole staging memrefs — the inputs' at their contents,
    the FORGOTTEN outputs' (3) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_A (c : Dev nD) (i : grid0.Coords) (arg7 : Memref sig .tc .vmem S256x16384 .bf16) (harg7 : arg7.IsWhole) (arg8 : Memref sig .tc .vmem S1x512x16384 .fp8e4m3) (harg8 : arg8.IsWhole) (arg9 : Memref sig .tc .vmem S1x1x512 .f32) (harg9 : arg9.IsWhole) (arg10 : Memref sig .tc .vmem S256x1536 .bf16) (harg10 : arg10.IsWhole) (arg11 : Memref sig .tc .vmem S256x16384 .fp8e5m2) (harg11 : arg11.IsWhole) (arg12 : Memref sig .tc .vmem S256x128 .f32) (harg12 : arg12.IsWhole) (hc0 : cond0_0 i)
    (x0 : Vec F S256x16384 .bf16) (x1 : Vec F S1x512x16384 .fp8e4m3) (x2 : Vec F S1x1x512 .f32) (xt0 : TbBuf0 (F := F) c tbM0_0) (xt1 : TbBuf0 (F := F) c tbM0_1) (xt2 : TbBuf0 (F := F) c tbM0_2) (xt3 : TbBuf0 (F := F) c tbM0_3) (xt4 : TbBuf0 (F := F) c tbM0_4) :
      ∀ (E : Set ℕ) (K : PUnit → sProp (MT nD τ sig Unit (Elt F) ℕ (UR sig nD τ) ℕ)),
        iprop(owns (c : Thread nD τ) arg7 fullShare x0 ∗ owns (c : Thread nD τ) arg8 fullShare x1 ∗ owns (c : Thread nD τ) arg9 fullShare x2 ∗ (∃ d, owns (c : Thread nD τ) arg10 fullShare d) ∗ (∃ d, owns (c : Thread nD τ) arg11 fullShare d) ∗ (∃ d, owns (c : Thread nD τ) arg12 fullShare d) ∗ tbPt0 c tbM0_0 xt0 ∗ tbPt0 c tbM0_1 xt1 ∗ tbPt0 c tbM0_2 xt2 ∗ tbPt0 c tbM0_3 xt3 ∗ tbPt0 c tbM0_4 xt4
            ∗ (iprop(owns (c : Thread nD τ) arg7 fullShare x0 ∗ owns (c : Thread nD τ) arg8 fullShare x1 ∗ owns (c : Thread nD τ) arg9 fullShare x2 ∗ (∃ d, owns (c : Thread nD τ) arg10 fullShare d) ∗ (∃ d, owns (c : Thread nD τ) arg11 fullShare d) ∗ (∃ d, owns (c : Thread nD τ) arg12 fullShare d) ∗ tbPt0 c tbM0_0 xt0 ∗ tbPt0 c tbM0_1 xt1 ∗ tbPt0 c tbM0_2 xt2 ∗ tbPt0 c tbM0_3 xt3 ∗ tbPt0 c tbM0_4 xt4) -∗ K ⟨⟩))
          ⊢ wp frame (wpE (defs₀ (F := F)) Variants.none c none) E (cc0_dgrad i tbM0_0 htbM0_0 tbM0_1 htbM0_1 tbM0_2 htbM0_2 tbM0_3 htbM0_3 tbM0_4 htbM0_4 arg7 harg7 arg8 harg8 arg9 harg9 arg10 harg10 arg11 harg11 arg12 harg12) K := by
    intro E K
    simp only [cc0_dgrad_eq_skeleton]; unfold cc0_dgrad_skel
    simp only [k0_part23_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton]
    unfold owns
    iintro ⟨⟨%f0, %hf0, H0⟩, ⟨%f1, %hf1, H1⟩, ⟨%f2, %hf2, H2⟩, ⟨%d3, %f3, -, H3⟩, ⟨%ds0, %fs0, -, HS0⟩, ⟨%ds1, %fs1, -, HS1⟩, HT0, HT1, HT2, HT3, HT4, Hk⟩
    obtain rfl := harg7.eq_unread hf0; obtain rfl := harg8.eq_unread hf1; obtain rfl := harg9.eq_unread hf2
    sl_exec (disch := first | sl_exact hc0)
    sl_step
    iapply Hk
    isplitl [H0]
    · iexists _; isplitr; · ipureintro; exact harg7.read_unread _
      iexact H0
    isplitl [H1]
    · iexists _; isplitr; · ipureintro; exact harg8.read_unread _
      iexact H1
    isplitl [H2]
    · iexists _; isplitr; · ipureintro; exact harg9.read_unread _
      iexact H2
    isplitl [H3]
    · iexists _, _; isplitr; swap; · iexact H3
      ipureintro; rfl
    isplitl [HS0]
    · iexists _, _; isplitr; swap; · iexact HS0
      ipureintro; rfl
    isplitl [HS1]
    · iexists _, _; isplitr; swap; · iexact HS1
      ipureintro; rfl
    isplitl [HT0]; · iexact HT0
    isplitl [HT1]; · iexact HT1
    isplitl [HT2]; · iexact HT2
    isplitl [HT3]; · iexact HT3
    iexact HT4

end Cert.Kernel.Run

end
-- ==== Proof.KRunB.lean ====
/- The body at a point whose column block is not the first: it multiplies what the scratch holds. The output is forgotten. -/
module

public import proofs.«01_k».proof.Proof.KRuns

@[expose] public section

-- membership in a rectangle of production extents (`View.cover_of_tiled`): the elaborator's structural look
-- recurses once per coordinate of the long axes
set_option maxRecDepth 16384

noncomputable section

namespace Cert.Kernel.Run

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

-- (the run's proof term is large: checking it walks past the default budget)
set_option maxHeartbeats 1000000 in
/-- The body's triple IN CASE B (`scf.if` 0 not taken: points 1, 2, … 107: 72 of 108): on whole staging memrefs — the inputs' at their contents,
    the FORGOTTEN outputs' (3) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_B (c : Dev nD) (i : grid0.Coords) (arg7 : Memref sig .tc .vmem S256x16384 .bf16) (harg7 : arg7.IsWhole) (arg8 : Memref sig .tc .vmem S1x512x16384 .fp8e4m3) (harg8 : arg8.IsWhole) (arg9 : Memref sig .tc .vmem S1x1x512 .f32) (harg9 : arg9.IsWhole) (arg10 : Memref sig .tc .vmem S256x1536 .bf16) (harg10 : arg10.IsWhole) (arg11 : Memref sig .tc .vmem S256x16384 .fp8e5m2) (harg11 : arg11.IsWhole) (arg12 : Memref sig .tc .vmem S256x128 .f32) (harg12 : arg12.IsWhole) (hc0 : ¬cond0_0 i)
    (x0 : Vec F S256x16384 .bf16) (x1 : Vec F S1x512x16384 .fp8e4m3) (x2 : Vec F S1x1x512 .f32) (xt0 : TbBuf0 (F := F) c tbM0_0) (xt1 : TbBuf0 (F := F) c tbM0_1) (xt2 : TbBuf0 (F := F) c tbM0_2) (xt3 : TbBuf0 (F := F) c tbM0_3) (xt4 : TbBuf0 (F := F) c tbM0_4) :
      ∀ (E : Set ℕ) (K : PUnit → sProp (MT nD τ sig Unit (Elt F) ℕ (UR sig nD τ) ℕ)),
        iprop(owns (c : Thread nD τ) arg7 fullShare x0 ∗ owns (c : Thread nD τ) arg8 fullShare x1 ∗ owns (c : Thread nD τ) arg9 fullShare x2 ∗ (∃ d, owns (c : Thread nD τ) arg10 fullShare d) ∗ (∃ d, owns (c : Thread nD τ) arg11 fullShare d) ∗ (∃ d, owns (c : Thread nD τ) arg12 fullShare d) ∗ tbPt0 c tbM0_0 xt0 ∗ tbPt0 c tbM0_1 xt1 ∗ tbPt0 c tbM0_2 xt2 ∗ tbPt0 c tbM0_3 xt3 ∗ tbPt0 c tbM0_4 xt4
            ∗ (iprop(owns (c : Thread nD τ) arg7 fullShare x0 ∗ owns (c : Thread nD τ) arg8 fullShare x1 ∗ owns (c : Thread nD τ) arg9 fullShare x2 ∗ (∃ d, owns (c : Thread nD τ) arg10 fullShare d) ∗ (∃ d, owns (c : Thread nD τ) arg11 fullShare d) ∗ (∃ d, owns (c : Thread nD τ) arg12 fullShare d) ∗ tbPt0 c tbM0_0 xt0 ∗ tbPt0 c tbM0_1 xt1 ∗ tbPt0 c tbM0_2 xt2 ∗ tbPt0 c tbM0_3 xt3 ∗ tbPt0 c tbM0_4 xt4) -∗ K ⟨⟩))
          ⊢ wp frame (wpE (defs₀ (F := F)) Variants.none c none) E (cc0_dgrad i tbM0_0 htbM0_0 tbM0_1 htbM0_1 tbM0_2 htbM0_2 tbM0_3 htbM0_3 tbM0_4 htbM0_4 arg7 harg7 arg8 harg8 arg9 harg9 arg10 harg10 arg11 harg11 arg12 harg12) K := by
    intro E K
    simp only [cc0_dgrad_eq_skeleton]; unfold cc0_dgrad_skel
    unfold owns
    iintro ⟨⟨%f0, %hf0, H0⟩, ⟨%f1, %hf1, H1⟩, ⟨%f2, %hf2, H2⟩, ⟨%d3, %f3, -, H3⟩, ⟨%ds0, %fs0, -, HS0⟩, ⟨%ds1, %fs1, -, HS1⟩, HT0, HT1, HT2, HT3, HT4, Hk⟩
    obtain rfl := harg7.eq_unread hf0; obtain rfl := harg8.eq_unread hf1; obtain rfl := harg9.eq_unread hf2
    sl_exec (disch := first | sl_exact hc0)
    sl_step
    iapply Hk
    isplitl [H0]
    · iexists _; isplitr; · ipureintro; exact harg7.read_unread _
      iexact H0
    isplitl [H1]
    · iexists _; isplitr; · ipureintro; exact harg8.read_unread _
      iexact H1
    isplitl [H2]
    · iexists _; isplitr; · ipureintro; exact harg9.read_unread _
      iexact H2
    isplitl [H3]
    · iexists _, _; isplitr; swap; · iexact H3
      ipureintro; rfl
    isplitl [HS0]
    · iexists _, _; isplitr; swap; · iexact HS0
      ipureintro; rfl
    isplitl [HS1]
    · iexists _, _; isplitr; swap; · iexact HS1
      ipureintro; rfl
    isplitl [HT0]; · iexact HT0
    isplitl [HT1]; · iexact HT1
    isplitl [HT2]; · iexact HT2
    isplitl [HT3]; · iexact HT3
    iexact HT4

end Cert.Kernel.Run

end
-- ==== Proof.KFrame.lean ====
/- The kernel as taken runs, whatever the floats are: every execution ends, nothing faults, the arguments end unchanged. -/
module

public import proofs.«01_k».proof.Proof.KRunA
public import proofs.«01_k».proof.Proof.KRunB
public import Idealize.ShloMosaic.Lib.Claim

@[expose] public section

-- membership in a rectangle of production extents (`View.cover_of_tiled`): the elaborator's structural look
-- recurses once per coordinate of the long axes
set_option maxRecDepth 16384

noncomputable section

namespace Cert.Kernel.Run

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)
/-! ## The pipeline's proof data -/

/-- The output windows this certificate FORGETS (3): nothing reads what the kernel leaves in them, so nothing
    of it is named (Lib/Pipeline/Dat.lean `Dat.toRForget`). -/
def forgets0 : Fin 4 → Bool := fun w => w.val == 3

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register) and the tables' halves (`ΦT`); nothing owed;
    full shares. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, h⟩ => Pipeline.Dat.unnamed (cfg := (cfgM m hO)) ⟨3, h⟩ t
  Φ _ := iprop(Pipeline.ΦA spec0 c ∗ Pipeline.ΦT pre0 (tbl m) c)
  q _ := fullShare
  owed _ := 0

/-- The proof data's arrays are the region-entry contents: the proof data's definition projected (`dsimp`), so that
    `V` — a fold over @main's host prefix, long for some programs — is never unfolded to check it. -/
theorem A_eq (hO : Ok m) (c : Dev nD) (w : Fin (cfgM m hO).W) : (dats m hO 0 c).A w = V m c (Pipeline.arrRef spec0 w) := by
  dsimp only [dats]

/-- What the body leaves, window by window (the proof data's `match` reduced by `dsimp`). -/
theorem after0_0 (hO : Ok m) (c : Dev nD) (t : Fin (cfgM m hO).N) : (dats m hO 0 c).after 0 t = iblk m hO c 0 t := by dsimp only [dats]; try rfl
/-- The body leaves the weights as they were. -/
theorem after0_1 (hO : Ok m) (c : Dev nD) (t : Fin (cfgM m hO).N) : (dats m hO 0 c).after 1 t = iblk m hO c 1 t := by dsimp only [dats]; try rfl
/-- The body leaves the weight scales as they were. -/
theorem after0_2 (hO : Ok m) (c : Dev nD) (t : Fin (cfgM m hO).N) : (dats m hO 0 c).after 2 t = iblk m hO c 2 t := by dsimp only [dats]; try rfl

/-- Each input's current staging buffer holds its block at every point, fetched there or not (`beforeK_W_of`). -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
/-- The second window holds its weights at every point. -/
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
/-- The third window holds its weight scales at every point. -/
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d

/-! ## The body obligation, at a generic point -/

/-- What the body is called with at point `t` (Lib/Pipeline.lean `BodyObligation`'s precondition, the windows one by one), -/
def bodyPre (hO : Ok m) (c : Dev nD) (t : Fin (cfgM m hO).N) : sProp (MT nD τ sig Unit (Elt F) ℕ (UR sig nD τ) ℕ) :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare d))

/-- and what it returns. -/
def bodyPost (hO : Ok m) (c : Dev nD) (t : Fin (cfgM m hO).N) : sProp (MT nD τ sig Unit (Elt F) ℕ (UR sig nD τ) ℕ) :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t)
    ∗ (∃ d, owns (c : Thread nD τ) (ms0_3 m hO t) fullShare d))

set_option maxHeartbeats 800000 in
/-- The body at any point: the inputs' memrefs hold their blocks (`before0_W`); the closed forms say which case the point is in (`by_cases`), an output the case reads before covering holds what the point before left (`before0_W_κ`); so the
    run applies; the invariant hands the body its scratch buffers at some contents (and the generator register) and takes them back at some contents (`PhiA_eq`); the core owes nothing throughout. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2]
  rw [show (dats m hO 0 c).Φ t.succ = (dats m hO 0 c).Φ t.castSucc from rfl,
    show (dats m hO 0 c).owesAt () t.succ = (dats m hO 0 c).owesAt () t.castSucc from rfl,
    after0_0, after0_1, after0_2]
  rw [show (dats m hO 0 c).Φ t.castSucc = iprop(Pipeline.ΦA spec0 c ∗ Pipeline.ΦT pre0 (tbl m) c) from rfl, PhiT0_eq, PhiA0_eq]
  have hN : t.val < 108 := lt_of_lt_of_eq t.isLt (show (cfgM m hO).N = 108 from N_0)
  by_cases h0 : t.val % 3 = 0
  · iintro ⟨⟨⟨⟨HS0, HS1⟩, Hg⟩, ⟨HT0, HT1, HT2, HT3, HT4⟩⟩, Ho, ⟨%d0, H0⟩, ⟨%d1, H1⟩, ⟨%d2, H2⟩, ⟨%d3, H3⟩⟩
    iapply ((kernelRun0_A c (grid0.coords t) _ _ _ _ _ _ _ _ _ _ _ _ ((hcond0_0 t).mpr h0) (iblk m hO c 0 t) (iblk m hO c 1 t) (iblk m hO c 2 t) (tbl m 0) (tbl m 1) (tbl m 2) (tbl m 3) (tbl m 4)) Set.univ _)
    isplitl [H0]; · iexact H0
    isplitl [H1]; · iexact H1
    isplitl [H2]; · iexact H2
    isplitl [H3]; · iexists _; iexact H3
    isplitl [HS0]; · iexact HS0
    isplitl [HS1]; · iexact HS1
    isplitl [HT0]; · iexact HT0
    isplitl [HT1]; · iexact HT1
    isplitl [HT2]; · iexact HT2
    isplitl [HT3]; · iexact HT3
    isplitl [HT4]; · iexact HT4
    iintro ⟨H0, H1, H2, H3, HS0, HS1, HT0, HT1, HT2, HT3, HT4⟩
    isplitl [HS0 HS1 Hg HT0 HT1 HT2 HT3 HT4]
    · isplitl [HS0 HS1 Hg]
      · isplitl [HS0 HS1]
        · isplitl [HS0]
          · iexact HS0
          iexact HS1
        iexact Hg
      isplitl [HT0]; · iexact HT0
      isplitl [HT1]; · iexact HT1
      isplitl [HT2]; · iexact HT2
      isplitl [HT3]; · iexact HT3
      iexact HT4
    isplitl [Ho]; · iexact Ho
    isplitl [H0]; · iexact H0
    isplitl [H1]; · iexact H1
    isplitl [H2]; · iexact H2
    iexact H3
  · iintro ⟨⟨⟨⟨HS0, HS1⟩, Hg⟩, ⟨HT0, HT1, HT2, HT3, HT4⟩⟩, Ho, ⟨%d0, H0⟩, ⟨%d1, H1⟩, ⟨%d2, H2⟩, ⟨%d3, H3⟩⟩
    iapply ((kernelRun0_B c (grid0.coords t) _ _ _ _ _ _ _ _ _ _ _ _ (fun h => h0 ((hcond0_0 t).mp h)) (iblk m hO c 0 t) (iblk m hO c 1 t) (iblk m hO c 2 t) (tbl m 0) (tbl m 1) (tbl m 2) (tbl m 3) (tbl m 4)) Set.univ _)
    isplitl [H0]; · iexact H0
    isplitl [H1]; · iexact H1
    isplitl [H2]; · iexact H2
    isplitl [H3]; · iexists _; iexact H3
    isplitl [HS0]; · iexact HS0
    isplitl [HS1]; · iexact HS1
    isplitl [HT0]; · iexact HT0
    isplitl [HT1]; · iexact HT1
    isplitl [HT2]; · iexact HT2
    isplitl [HT3]; · iexact HT3
    isplitl [HT4]; · iexact HT4
    iintro ⟨H0, H1, H2, H3, HS0, HS1, HT0, HT1, HT2, HT3, HT4⟩
    isplitl [HS0 HS1 Hg HT0 HT1 HT2 HT3 HT4]
    · isplitl [HS0 HS1 Hg]
      · isplitl [HS0 HS1]
        · isplitl [HS0]
          · iexact HS0
          iexact HS1
        iexact Hg
      isplitl [HT0]; · iexact HT0
      isplitl [HT1]; · iexact HT1
      isplitl [HT2]; · iexact HT2
      isplitl [HT3]; · iexact HT3
      iexact HT4
    isplitl [Ho]; · iexact Ho
    isplitl [H0]; · iexact H0
    isplitl [H1]; · iexact H1
    isplitl [H2]; · iexact H2
    iexact H3

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The library's body obligation, at every point: the body's triple restated (Lib/Pipeline/FrameBody.lean `triple_restated`). -/
theorem body_obligation (hO : Ok m) (c : Dev nD) : BodyObligation (dats (F := F) m hO 0 c) (defs₀ (F := F)) Variants.none () Set.univ forgets0 := fun t => by
  rw [bigSep_W0, bigSep_W0, defs₀_row m hO]
  exact triple_restated (sound_body m hO c t) rfl .rfl fun _ => .rfl

/-! ## The run and the frame -/

-- `θ_run_frameP_forget`'s implicit arguments are found by unifying its conclusion with this one, which takes unfolding plain
-- definitions in a metavariable's type
set_option maxHeartbeats 4000000 in
set_option backward.isDefEq.respectTransparency.types false in
/-- THE LAUNCH: `run_main`'s statement, and every semaphore counter of the machine at zero at every final state. -/
theorem run_main_quiescent (hO : Ok m) : θ_run defs (onTc (τ := τ) (main (F := F))) (s₀ m ρ) (fun r => (Pipeline.RDat.FramePost ((Pipeline.pin pcfgs fun _ => adm m hO) 0) (fun c => (dats m hO 0 c).toRForget forgets0) (V m)) r ∧ r.2.sem = fun _ => 0) :=
  Pipeline.θ_run_frameP_forget (Q' := _) pcfgs (fun _ => adm m hO) (dats m hO) (0 : Fin 1) launch0 defs₀ Variants.none forgets0 m ρ main
    (hbody := fun c => (body_obligation m hO c).loose) (hshare := fun c => (dats m hO 0 c).share_full fun _ => rfl)
    (howed := fun _ _ => rfl) (V := V m) (hmain := hmain m Variants.none) (hA := A_eq m hO) (hpf := V_pre m) (hΦ := fun _ _ => rfl)

/-- At the compiled mesh, for any values, from any memory with zero counters: every weakly fair execution of @main on the
    TensorCores terminates, and every final state has every INPUT array of the pipeline unchanged, nothing stated of the
    FORGOTTEN outputs (window 3) (Lib/Pipeline/Frame.lean `RDat.FramePost` over the proof data with those windows
    forgotten, Dat.lean `Dat.toRForget`), and every other unscoped buffer at its region-entry contents. -/
theorem run_main (hO : Ok m) : θ_run defs (onTc (τ := τ) (main (F := F))) (s₀ m ρ) (Pipeline.RDat.FramePost ((Pipeline.pin pcfgs fun _ => adm m hO) 0) (fun c => (dats m hO 0 c).toRForget forgets0) (V m)) :=
  (θ_run defs _ _).mono (fun _ h => h.1) (run_main_quiescent m ρ hO)

/-- `frame` without the counters: the argument arrays end unchanged. -/
theorem unchanged (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ hO (fun c => (dats m hO 0 c).toRForget forgets0) (A_eq m hO) (run_main m ρ hO)

/-- THE FRAME: `Cert.quiescent_Kernel`'s statement (Defs.lean) at any `F` — Proof.lean cites it at `Bits`:
    `theorem Cert.Proof.claim : Cert.Claim := ⟨Cert.Kernel.Gen.facts, fun m ρ _ => Cert.Kernel.Gen.frame m ρ⟩`; here for every contents of the PREFETCHED TABLES, UNDER `Gen.Ok m` (the pipeline's side condition of
    them), which Proof.lean proves from the precondition: `⟨…, fun m ρ h => Cert.Kernel.Gen.frame m ρ (ok_of_pre m h)⟩`. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ hO) ((θ_run defs _ _).mono (fun _ h => h.2) (run_main_quiescent m ρ hO))

end Cert.Kernel.Run

end
-- ==== Proof.Plan.lean ====
/- The schedule of the grid, as arithmetic of natural numbers: which group and which row tile each of the 36 steps takes. -/
module

public import Idealize.ShloMosaic.Lib.Routing.OpsSearch

@[expose] public section

namespace Cert.Plan

/-- The sum of `f` over `0 … e`. -/
def pre (f : ℕ → ℕ) (e : ℕ) : ℕ := ((List.range (e + 1)).map f).sum

/-- The first running sum is the first entry. -/
theorem pre_zero (f : ℕ → ℕ) : pre f 0 = f 0 := by simp [pre]

/-- The next running sum adds the next entry. -/
theorem pre_succ (f : ℕ → ℕ) (e : ℕ) : pre f (e + 1) = pre f e + f (e + 1) := by
  simp [pre, List.range_succ, add_assoc]

/-- An entry is at most its running sum. -/
theorem le_pre (f : ℕ → ℕ) (e : ℕ) : f e ≤ pre f e := by
  cases e with
  | zero => rw [pre_zero]
  | succ e => rw [pre_succ]; omega

/-- Running sums do not decrease. -/
theorem pre_mono (f : ℕ → ℕ) : Monotone (pre f) := monotone_nat_of_le_succ fun e => by rw [pre_succ]; omega

/-- Before the entry `e` a running sum has reached at least every earlier running sum. -/
theorem pre_le_sub (f : ℕ → ℕ) {e e' : ℕ} (h : e < e') : pre f e ≤ pre f e' - f e' := by
  obtain ⟨k, rfl⟩ : ∃ k, e' = k + 1 := ⟨e' - 1, by omega⟩
  have := pre_mono f (show e ≤ k by omega)
  rw [pre_succ]; omega

/-- Where `x` falls among the running sums: the number of running sums that it has reached. -/
def slot (f : ℕ → ℕ) (x : ℕ) : ℕ := Nat.count (fun q => pre f q ≤ x) 5

/-- A place between two successive running sums has just one slot. -/
theorem slot_unique (f : ℕ → ℕ) (x e : ℕ) (he : e < 5) (h1 : pre f e - f e ≤ x) (h2 : x < pre f e) : slot f x = e := by
  have h0 := pre_zero f
  have e1 := pre_succ f 0
  have e2 := pre_succ f 1
  have e3 := pre_succ f 2
  have e4 := pre_succ f 3
  simp only [Nat.zero_add, Nat.reduceAdd] at e1 e2 e3 e4
  have hc : slot f x = (if pre f 0 ≤ x then 1 else 0) + (if pre f 1 ≤ x then 1 else 0) + (if pre f 2 ≤ x then 1 else 0) + (if pre f 3 ≤ x then 1 else 0) + (if pre f 4 ≤ x then 1 else 0) := by
    simp [slot, Nat.count_succ]
  rw [hc]
  interval_cases e <;> split_ifs <;> omega

/-- Every place below the total lies between two successive running sums. -/
theorem slot_exists (f : ℕ → ℕ) (x : ℕ) (hx : x < pre f 4) : ∃ e < 5, pre f e - f e ≤ x ∧ x < pre f e := by
  have h0 := pre_zero f
  have e1 := pre_succ f 0
  have e2 := pre_succ f 1
  have e3 := pre_succ f 2
  have e4 := pre_succ f 3
  simp only [Nat.zero_add, Nat.reduceAdd] at e1 e2 e3 e4
  by_cases g0 : x < pre f 0
  · exact ⟨0, by omega, by omega, g0⟩
  by_cases g1 : x < pre f 1
  · exact ⟨1, by omega, by omega, g1⟩
  by_cases g2 : x < pre f 2
  · exact ⟨2, by omega, by omega, g2⟩
  by_cases g3 : x < pre f 3
  · exact ⟨3, by omega, by omega, g3⟩
  exact ⟨4, by omega, by omega, hx⟩

/-- The slot of a reached position: it is one of the five, and the position lies in it. -/
theorem slot_spec (f : ℕ → ℕ) (x : ℕ) (hx : x < pre f 4) : slot f x < 5 ∧ pre f (slot f x) - f (slot f x) ≤ x ∧ x < pre f (slot f x) := by
  obtain ⟨e, he, h1, h2⟩ := slot_exists f x hx
  rw [slot_unique f x e he h1 h2]; exact ⟨he, h1, h2⟩

variable (s : ℕ → ℕ)

/-- The last row of a group, plus one. -/
abbrev en (e : ℕ) : ℕ := pre s e
/-- The first row of a group. -/
def st (e : ℕ) : ℕ := en s e - s e
/-- The first row tile that a group touches. -/
def t0 (e : ℕ) : ℕ := st s e / 256
/-- The last row tile that a group touches, plus one (for an empty group the first). -/
def t1 (e : ℕ) : ℕ := if 0 < s e then (en s e + 256 - 1) / 256 else t0 s e
/-- How many row tiles a group touches. -/
def cn (e : ℕ) : ℕ := t1 s e - t0 s e
/-- The steps that the groups up to this one take. -/
abbrev ce (e : ℕ) : ℕ := pre (cn s) e
/-- The step that grid row `i` stands for: past the last step the last step is repeated. -/
def ix (i : ℕ) : ℕ := min i (ce s 4 - 1)
/-- The group of grid row `i`. -/
def gr (i : ℕ) : ℕ := slot (cn s) (ix s i)
/-- The row tile of grid row `i`. -/
def mt (i : ℕ) : ℕ := t0 s (gr s i) + ix s i - (ce s (gr s i) - cn s (gr s i))
/-- The group of a row. -/
def eid (R : ℕ) : ℕ := slot s R

/-- A group's tiles do not end before they start. -/
theorem t0_le_t1 (e : ℕ) : t0 s e ≤ t1 s e := by
  unfold t1; split
  · unfold t0; have := le_pre s e; unfold st en; omega
  · exact le_rfl

/-- A group's start and size make its end. -/
theorem en_eq (e : ℕ) : st s e + s e = en s e := by have := le_pre s e; unfold st en; omega

/-- The steps used up to a group: at most the tiles that its end reaches, and one more for each group before. -/
theorem ce_le (e : ℕ) : ce s e ≤ (en s e + 255) / 256 + e := by
  induction e with
  | zero =>
    have h : cn s 0 ≤ t1 s 0 := Nat.sub_le _ _
    have : t1 s 0 ≤ (en s 0 + 255) / 256 := by
      unfold t1; split
      · omega
      · unfold t0 st; omega
    rw [ce, pre_zero]; omega
  | succ e ih =>
    have h1 := pre_succ s e
    have h2 := en_eq s (e + 1)
    have hce : ce s (e + 1) = ce s e + cn s (e + 1) := pre_succ _ _
    have : cn s (e + 1) ≤ (en s (e + 1) + 255) / 256 - (en s e + 255) / 256 + 1 := by
      unfold cn t1; split
      · unfold t0; unfold en at *; omega
      · omega
    unfold en at *
    omega

variable (hs : en s 4 = 8192)

include hs

/-- No group ends beyond the rows. -/
theorem en_le (e : ℕ) (he : e < 5) : en s e ≤ 8192 := hs ▸ pre_mono s (show e ≤ 4 by omega)

/-- Some step is used. -/
theorem ce4_pos : 0 < ce s 4 := by
  obtain ⟨e, he, h1, h2⟩ := slot_exists s 0 (show 0 < pre s 4 by change pre s 4 = _ at hs; omega)
  have hp : 0 < cn s e := by
    have := en_eq s e
    unfold cn t1 t0
    rw [if_pos (by unfold st en at this; omega)]
    unfold st en at *; omega
  exact lt_of_lt_of_le (lt_of_lt_of_le hp (le_pre (cn s) e)) (pre_mono (cn s) (show e ≤ 4 by omega))

/-- A step's place is among the steps used. -/
theorem ix_lt (i : ℕ) : ix s i < ce s 4 := by have := ce4_pos s hs; unfold ix; omega

/-- A step's group is the one whose steps the place is among. -/
theorem gr_spec (i : ℕ) : gr s i < 5 ∧ ce s (gr s i) - cn s (gr s i) ≤ ix s i ∧ ix s i < ce s (gr s i) := slot_spec (cn s) (ix s i) (ix_lt s hs i)

/-- A step's group is one of the five. -/
theorem gr_lt (i : ℕ) : gr s i < 5 := (gr_spec s hs i).1

/-- The row tile of a grid row is one that its group touches. -/
theorem mt_mem (i : ℕ) : t0 s (gr s i) ≤ mt s i ∧ mt s i < t1 s (gr s i) := by
  obtain ⟨_, h1, h2⟩ := gr_spec s hs i
  have h3 := le_pre (cn s) (gr s i)
  have h4 : cn s (gr s i) = t1 s (gr s i) - t0 s (gr s i) := rfl
  unfold mt; unfold ce at *; omega

/-- No group's tiles go beyond the thirty-two. -/
theorem t1_le (e : ℕ) (he : e < 5) : t1 s e ≤ 32 := by
  have := en_le s hs e he
  unfold t1 t0 st; split <;> omega

/-- Every row tile exists. -/
theorem mt_lt (i : ℕ) : mt s i < 32 := lt_of_lt_of_le (mt_mem s hs i).2 (t1_le s hs _ (gr_lt s hs i))

/-- The row tiles never go back. -/
theorem mt_mono {i j : ℕ} (h : i ≤ j) : mt s i ≤ mt s j := by
  have hx : ix s i ≤ ix s j := by unfold ix; omega
  obtain ⟨_, a1, a2⟩ := gr_spec s hs i
  obtain ⟨_, b1, b2⟩ := gr_spec s hs j
  rcases lt_trichotomy (gr s i) (gr s j) with hg | hg | hg
  · have m1 := (mt_mem s hs i).2
    have m2 := (mt_mem s hs j).1
    have m3 := pre_le_sub s hg
    have m4 := (mt_mem s hs i).1
    have m5 : t1 s (gr s i) ≤ (en s (gr s i) + 255) / 256 := by
      unfold t1 at m1 ⊢; split at m1
      · next h => rw [if_pos h]; omega
      · omega
    have m6 : t0 s (gr s j) = (en s (gr s j) - s (gr s j)) / 256 := rfl
    unfold en at *
    omega
  · unfold mt; rw [hg] at a1 a2 ⊢; omega
  · have := pre_le_sub (cn s) hg
    unfold ce at *; omega

/-- Every row is in the tile and the group of some grid row. -/
theorem covered (R : ℕ) (hR : R < 8192) : ∃ i < 36, mt s i = R / 256 ∧ st s (gr s i) ≤ R ∧ R < en s (gr s i) := by
  obtain ⟨e, he, h1, h2⟩ := slot_exists s R (by change pre s 4 = _ at hs; omega)
  have hpos : 0 < s e := by have := en_eq s e; unfold st en at this; omega
  have hen := en_eq s e
  have ht0 : t0 s e = st s e / 256 := rfl
  have ht1 : t1 s e = (en s e + 256 - 1) / 256 := by unfold t1; rw [if_pos hpos]
  have hst : st s e ≤ R := h1
  have hle := le_pre (cn s) e
  have hcn : cn s e = t1 s e - t0 s e := rfl
  have hce4 : ce s e ≤ ce s 4 := pre_mono (cn s) (show e ≤ 4 by omega)
  have hc36 := ce_le s 4
  rw [hs] at hc36
  have hb : R / 256 - t0 s e < cn s e := by unfold en at *; omega
  have hRt : t0 s e ≤ R / 256 := by rw [ht0]; exact Nat.div_le_div_right hst
  have hx : ix s (ce s e - cn s e + (R / 256 - t0 s e)) = ce s e - cn s e + (R / 256 - t0 s e) := by unfold ix; unfold ce at *; omega
  have hg : gr s (ce s e - cn s e + (R / 256 - t0 s e)) = e := by
    unfold gr; rw [hx]; exact slot_unique (cn s) _ e he (by unfold ce; omega) (by unfold ce at *; omega)
  refine ⟨ce s e - cn s e + (R / 256 - t0 s e), by unfold ce at *; omega, ?_, by rw [hg]; exact hst, by rw [hg]; exact h2⟩
  unfold mt; rw [hg, hx]; unfold ce at *; omega

/-- A row between the bounds of a grid row is of that grid row's group. -/
theorem eid_eq (i R : ℕ) (h1 : st s (gr s i) ≤ R) (h2 : R < en s (gr s i)) : eid s R = gr s i :=
  slot_unique s R _ (gr_lt s hs i) h1 h2

end Cert.Plan
-- ==== Proof.Tables.lean ====
/- The five prefetched tables, as the words that the host operations compute from the group sizes, and what they are as numbers. -/
module

public import proofs.«01_k».proof.Proof.Plan
public import proofs.«01_k».proof.Pre_sizes_ok
public import Idealize.ShloMosaic.Lib.Routing.OpsSet
public import Idealize.ShloMosaic.Lib.ReduceAll
public import Idealize.ShloMosaic.Lib.Affine

@[expose] public section

noncomputable section

namespace Cert.Tables

open Idealize.ShloMosaic Idealize.ShloMosaic.ValueIdx Idealize.ShloMosaic.WordCmp Idealize.ShloMosaic.Routing

/-- Five entries. -/
abbrev s5 : Shape := shape1 5
/-- Thirty-six entries. -/
abbrev s36 : Shape := shape1 36

/-- One word spread over five entries. -/
theorem bc5 : shape0.BroadcastsInDim s5 (![] : Fin 0 → Fin s5.rank) := by decide
/-- One word spread over thirty-six entries. -/
theorem bc36 : shape0.BroadcastsInDim s36 (![] : Fin 0 → Fin s36.rank) := by decide
/-- One word spread over itself. -/
theorem bc00 : shape0.BroadcastsInDim shape0 (![] : Fin 0 → Fin shape0.rank) := by decide
/-- A column of thirty-six. -/
theorem bcA : s36.BroadcastsInDim (shape2 36 1) (![0] : Fin 1 → Fin (shape2 36 1).rank) := by decide
/-- A row of five. -/
theorem bcB : s5.BroadcastsInDim (shape2 1 5) (![1] : Fin 1 → Fin (shape2 1 5).rank) := by decide
/-- The column spread over the rows' entries. -/
theorem bcC : (shape2 36 1).BroadcastsInDim (shape2 36 5) (![0, 1] : Fin 2 → Fin (shape2 36 5).rank) := by decide
/-- The row spread over the column's entries. -/
theorem bcD : (shape2 1 5).BroadcastsInDim (shape2 36 5) (![0, 1] : Fin 2 → Fin (shape2 36 5).rank) := by decide
/-- The window of a running sum over five entries. -/
theorem rw5 : s5.ReduceWindows (![5] : Fin 1 → Nat) ![1] ![4] ![0] s5 := by decide
/-- A table summed over its rows' entries. -/
theorem red : (shape2 36 5).ReducesTo [1] s36 := by decide
/-- Five entries summed. -/
theorem redS : s5.ReducesTo [0] shape0 := by decide
/-- A scalar has an entry. -/
theorem n0 : 0 < shape0.numel := by decide
/-- The last of five entries. -/
theorem sl4 : s5.Slices ![4] (shape1 1) := by decide
/-- One entry as a scalar. -/
theorem sc10 : (shape1 1).ShapeCasts shape0 := by decide
/-- A truth value is narrower than a word. -/
theorem one_lt : 1 < 32 := by decide
/-- The take of one of five words for each of thirty-six indices is well formed. -/
theorem gwf : GatherDims.WF s5 (shape2 36 1) s36 [] [0] [] [0] [] 1 ![1] := by decide

/-- The take of one word of a five-word table for each of 36 indices. -/
def gd : GatherDims s5 (shape2 36 1) s36 where
  offsetDims := []
  collapsedSliceDims := [0]
  operandBatchingDims := []
  startIndicesBatchingDims := []
  startIndexMap := [0]
  indexVectorDim := 1
  sliceSizes := ![1]
  wf := gwf

/-- One word as a scalar array. -/
abbrev kw (b : BitVec 32) : IVec shape0 32 := constantI shape0 32 b
/-- One word over five entries. -/
abbrev k5 (b : BitVec 32) : IVec s5 32 := broadcastInDim s5 ![] bc5 (kw b)
/-- One word over thirty-six entries. -/
abbrev k36 (b : BitVec 32) : IVec s36 32 := broadcastInDim s36 ![] bc36 (kw b)
/-- A running sum of five words. -/
def csum (x : IVec s5 32) : IVec s5 32 := Host.reduceWindow IntOp.addi ![5] ![1] ![4] ![0] x (broadcastInDim shape0 ![] bc00 (kw 0#32)) rw5 n0

variable (g : IVec s5 32)

/-- Every one of the five entries is the word. -/
theorem k5_ap (b : BitVec 32) (j : s5.Idx) : k5 b j = b := bc0 _ _ _
/-- Every one of the thirty-six entries is the word. -/
theorem k36_ap (b : BitVec 32) (j : s36.Idx) : k36 b j = b := bc0 _ _ _

/-- The last of five words, as the scalar that a slice and a reshape read. -/
theorem last_ap (x : IVec s5 32) : shapeCast shape0 (extractStridedSlice (shape1 1) ![4] x sl4) sc10 ix0 = x (ix1 4) := by
  unfold shapeCast
  rw [eq_ix1 (Shape.reshapeEquiv sc10 ix0)]
  refine (slice1 4 x sl4 _ (by omega)).trans (congrArg x (congrArg ix1 (Fin.ext ?_)))
  exact congrArg (4 + ·) (Nat.lt_one_iff.1 (Fin.isLt _))

/-- The groups' ends. -/
def endsA : IVec s5 32 := csum g
/-- The groups' starts. -/
def startsA : IVec s5 32 := subi (endsA g) g
/-- The groups' first tiles. -/
def t0A : IVec s5 32 := pyDiv bc5 (startsA g) (kw 256#32)
/-- The tiles after the groups' last ones. -/
def t1A : IVec s5 32 := select (cmpi .sgt g (k5 0#32)) (pyDiv bc5 (subi (addi (endsA g) (k5 256#32)) (k5 1#32)) (kw 256#32)) (t0A g)
/-- The groups' numbers of tiles. -/
def cntA : IVec s5 32 := subi (t1A g) (t0A g)
/-- The running sums of the numbers of tiles. -/
def cendA : IVec s5 32 := csum (cntA g)
/-- Each grid row's place among the steps used, the last one for the idle rows. -/
def idxA : IVec s36 32 := minsi (iotaInDim s36 32 0) (broadcastInDim s36 ![] bc36 (subi (shapeCast shape0 (extractStridedSlice (shape1 1) ![4] (cendA g) sl4) sc10) (kw 1#32)))
/-- Each grid row's group. -/
def grpA : IVec s36 32 :=
  Host.reduce IntOp.addi (extui 32 (cmpi .sge (broadcastInDim (shape2 36 5) ![0, 1] bcC (broadcastInDim (shape2 36 1) ![0] bcA (idxA g)))
    (broadcastInDim (shape2 36 5) ![0, 1] bcD (broadcastInDim (shape2 1 5) ![1] bcB (cendA g)))) one_lt) (kw 0#32) red n0
/-- A five-word table read at each grid row's group. -/
def atG (x : IVec s5 32) : IVec s36 32 :=
  Host.gather gd x (broadcastInDim (shape2 36 1) ![0] bcA (select (cmpi .slt (grpA g) (k36 0#32)) (addi (grpA g) (k36 5#32)) (grpA g)))
/-- Each grid row's row tile. -/
def mtA : IVec s36 32 := subi (addi (atG g (t0A g)) (idxA g)) (atG g (subi (cendA g) (cntA g)))
/-- The first row of each grid row's group. -/
def loA : IVec s36 32 := atG g (startsA g)
/-- The end of each grid row's group. -/
def hiA : IVec s36 32 := atG g (endsA g)

/-- The group sizes as numbers. -/
def sz (e : ℕ) : ℕ := if h : e < 5 then (g (ix1 ⟨e, h⟩)).toNat else 0

/-- The group sizes, in numbers. -/
theorem g_ap (e : Fin 5) : g (ix1 e) = BitVec.ofNat 32 (sz g e.val) := by
  unfold sz; rw [dif_pos e.isLt, BitVec.ofNat_toNat, BitVec.setWidth_eq]

/-- A running sum of words, in numbers. -/
theorem csum_ap (x : IVec s5 32) (f : ℕ → ℕ) (hx : ∀ e : Fin 5, x (ix1 e) = BitVec.ofNat 32 (f e.val)) (e : Fin 5) :
    csum x (ix1 e) = BitVec.ofNat 32 (Plan.pre f e.val) := by
  unfold csum Plan.pre
  exact cumsum1 (Nm1 := 4) rfl x f hx _ (by rw [bc0]; rfl) rw5 n0 e

variable (hs : Plan.en (sz g) 4 = 8192)

/-- The groups' ends, in numbers. -/
theorem ends_ap (e : Fin 5) : endsA g (ix1 e) = BitVec.ofNat 32 (Plan.en (sz g) e.val) := csum_ap g _ (g_ap g) e

/-- The groups' starts, in numbers. -/
theorem starts_ap (e : Fin 5) : startsA g (ix1 e) = BitVec.ofNat 32 (Plan.st (sz g) e.val) := by
  unfold startsA Plan.st
  rw [subi_ap, ends_ap, g_ap g, ofNat32_sub (Plan.le_pre _ _)]

include hs

/-- The groups' first tiles, in numbers. -/
theorem t0_ap (e : Fin 5) : t0A g (ix1 e) = BitVec.ofNat 32 (Plan.t0 (sz g) e.val) := by
  have h1 := Plan.en_le _ hs e.val e.isLt
  have h2 := Plan.en_eq (sz g) e.val
  exact pyDiv_ap bc5 _ _ _ (starts_ap g e) rfl (by omega) (by decide) (by decide)

/-- The tiles after the groups' last ones, in numbers. -/
theorem t1_ap (e : Fin 5) : t1A g (ix1 e) = BitVec.ofNat 32 (Plan.t1 (sz g) e.val) := by
  have h1 := Plan.en_le _ hs e.val e.isLt
  have h2 := Plan.en_eq (sz g) e.val
  have hd : pyDiv bc5 (subi (addi (endsA g) (k5 256#32)) (k5 1#32)) (kw 256#32) (ix1 e) = BitVec.ofNat 32 ((Plan.en (sz g) e.val + 256 - 1) / 256) := by
    refine pyDiv_ap bc5 _ _ _ ?_ rfl (by omega) (by decide) (by decide)
    rw [subi_ap, addi_ap, ends_ap, k5_ap, k5_ap]
    show BitVec.ofNat 32 _ + BitVec.ofNat 32 256 - BitVec.ofNat 32 1 = _
    rw [BitVec.ofNat_add_ofNat, ofNat32_sub (by omega)]
  have hc : cmpi .sgt g (k5 0#32) (ix1 e) = BitVec.ofBool (decide (0 < sz g e.val)) := by
    show IntOp.cmpi .sgt (g (ix1 e)) (k5 0#32 (ix1 e)) = _
    rw [g_ap g, k5_ap]
    exact cmpi_sgt_ofNat (w := 32) (by omega) (by decide)
  unfold t1A Plan.t1
  show Scalar.select (cmpi .sgt g (k5 0#32) (ix1 e)) _ (t0A g (ix1 e)) = _
  rw [hd, hc, t0_ap g hs]
  by_cases h : 0 < sz g e.val <;> simp [h, Scalar.select]

/-- The groups' numbers of tiles, in numbers. -/
theorem cnt_ap (e : Fin 5) : cntA g (ix1 e) = BitVec.ofNat 32 (Plan.cn (sz g) e.val) := by
  unfold cntA Plan.cn
  rw [subi_ap, t0_ap g hs, t1_ap g hs, ofNat32_sub (Plan.t0_le_t1 _ _)]

/-- The running sums of the numbers of tiles, in numbers. -/
theorem cend_ap (e : Fin 5) : cendA g (ix1 e) = BitVec.ofNat 32 (Plan.ce (sz g) e.val) := csum_ap _ _ (cnt_ap g hs) e

/-- The steps used are at most the grid's. -/
theorem ce_lt (e : ℕ) (he : e < 5) : Plan.ce (sz g) e ≤ 36 := by
  have h := Plan.ce_le (sz g) 4
  rw [hs] at h
  have := Plan.pre_mono (Plan.cn (sz g)) (show e ≤ 4 by omega)
  unfold Plan.ce at *; omega

/-- Each grid row's place, in numbers. -/
theorem idx_ap (i : Fin 36) : idxA g (ix1 i) = BitVec.ofNat 32 (Plan.ix (sz g) i.val) := by
  have hp := Plan.ce4_pos _ hs
  have hl := ce_lt g hs 4 (by decide)
  have hv : subi (shapeCast shape0 (extractStridedSlice (shape1 1) ![4] (cendA g) sl4) sc10) (kw 1#32) ix0 = BitVec.ofNat 32 (Plan.ce (sz g) 4 - 1) := by
    rw [subi_ap]
    rw [last_ap, cend_ap g hs]
    exact ofNat32_sub (by exact hp)
  show IntOp.minsi (iotaInDim s36 32 0 (ix1 i)) _ = _
  rw [bc0, hv, iota1_ap]
  unfold IntOp.minsi Plan.ix
  rw [slt_ofNat32 (by omega) (by omega)]
  have := i.isLt
  by_cases h : i.val < Plan.ce (sz g) 4 - 1 <;> simp [h] <;> congr 1 <;> omega

/-- Each grid row's group, in numbers. -/
theorem grp_ap (i : Fin 36) : grpA g (ix1 i) = BitVec.ofNat 32 (Plan.gr (sz g) i.val) := by
  have hx := Plan.ix_lt _ hs i.val
  have hl := ce_lt g hs 4 (by decide)
  unfold grpA Plan.gr Plan.slot
  refine reduce_count (by decide) _ _ red n0 i _ fun q => ?_
  have hq := ce_lt g hs q.val q.isLt
  show IntOp.cmpi .sge (broadcastInDim (shape2 36 5) ![0, 1] bcC (broadcastInDim (shape2 36 1) ![0] bcA (idxA g)) (ix2 i q))
    (broadcastInDim (shape2 36 5) ![0, 1] bcD (broadcastInDim (shape2 1 5) ![1] bcB (cendA g)) (ix2 i q)) = 1#1 ↔ _
  rw [bcRows bcA bcC, bcCols bcB bcD, idx_ap g hs, cend_ap g hs, cmpi_sge_ofNat (w := 32) (by omega) (by omega), ofBool_decide_eq_one_iff]

/-- A table read at a grid row's group is the table's entry of that group. -/
theorem atG_ap (x : IVec s5 32) (i : Fin 36) : atG g x (ix1 i) = x (ix1 ⟨Plan.gr (sz g) i.val, Plan.gr_lt _ hs i.val⟩) := by
  have hg := Plan.gr_lt _ hs i.val
  unfold atG
  refine take_ap gd rfl rfl rfl rfl x _ i hg (by omega) ?_
  rw [bcCol]
  show Scalar.select (IntOp.cmpi .slt (grpA g (ix1 i)) (k36 0#32 (ix1 i))) _ (grpA g (ix1 i)) = _
  rw [k36_ap, grp_ap g hs]
  exact wrap_of_lt _ _ (by rw [BitVec.toNat_ofNat]; omega)

/-- Each grid row's row tile, in numbers. -/
theorem mt_ap (i : Fin 36) : mtA g (ix1 i) = BitVec.ofNat 32 (Plan.mt (sz g) i.val) := by
  have h := Plan.gr_spec _ hs i.val
  unfold mtA Plan.mt
  rw [subi_ap, addi_ap, atG_ap g hs, atG_ap g hs, idx_ap g hs, t0_ap g hs, subi_ap, cend_ap g hs, cnt_ap g hs, ofNat32_sub (Plan.le_pre _ _), BitVec.ofNat_add_ofNat, ofNat32_sub (by
    show Plan.ce (sz g) (Plan.gr (sz g) i.val) - Plan.cn (sz g) (Plan.gr (sz g) i.val) ≤ _
    omega)]

/-- The first row of each grid row's group, in numbers. -/
theorem lo_ap (i : Fin 36) : loA g (ix1 i) = BitVec.ofNat 32 (Plan.st (sz g) (Plan.gr (sz g) i.val)) := by
  unfold loA; rw [atG_ap g hs, starts_ap]

/-- The end of each grid row's group, in numbers. -/
theorem hi_ap (i : Fin 36) : hiA g (ix1 i) = BitVec.ofNat 32 (Plan.en (sz g) (Plan.gr (sz g) i.val)) := by
  unfold hiA; rw [atG_ap g hs, ends_ap]

omit hs in
/-- What the precondition says of the group sizes: together they are the rows. -/
theorem sizes_of_pre [Cert.Pre_sizes_ok.Facts] {F : FTy → Type} [FloatOps F] (a0 : FVec F Cert.Pre_sizes_ok.S8192x16384 .bf16) (a2 : FVec F Cert.Pre_sizes_ok.S5x1536x16384 .fp8e4m3)
    (a3 : FVec F Cert.Pre_sizes_ok.S5x1536 .f32) (h : Cert.Pre_sizes_ok.fn (F := F) a0 g a2 a3 = fun _ => 1#1) : Plan.en (sz g) 4 = 8192 := by
  have h0 := congrFun h ix0
  unfold Cert.Pre_sizes_ok.fn at h0
  obtain ⟨h01, h2⟩ := IntOp.andi_eq_one.1 h0
  obtain ⟨h1, h1'⟩ := IntOp.andi_eq_one.1 h01
  have hle : ∀ e : Fin 5, sz g e.val ≤ 8192 := fun e => by
    have a : IntOp.cmpi .sle (g (ix1 e)) _ = 1#1 := Host.reduce_andi_all _ _ _ _ _ h1' (ix1 e)
    have b : IntOp.cmpi .sge (g (ix1 e)) _ = 1#1 := Host.reduce_andi_all _ _ _ _ _ h1 (ix1 e)
    rw [bc0] at a b
    have hv : sz g e.val = (g (ix1 e)).toNat := by unfold sz; rw [dif_pos e.isLt]
    rw [hv]
    have a' : IntOp.cmpi .sle (g (ix1 e)) 8192#32 = 1#1 := a
    have b' : IntOp.cmpi .sge (g (ix1 e)) 0#32 = 1#1 := b
    rw [IntOp.cmpi_sle] at a'
    rw [IntOp.cmpi_sge] at b'
    have e1 : (8192#32).toInt = 8192 := by decide
    have e0 : (0#32).toInt = 0 := by decide
    rw [e1] at a'
    rw [e0] at b'
    have := (g (ix1 e)).isLt
    rw [BitVec.toInt_eq_toNat_cond] at a' b'
    split at a' <;> omega
  have h3 : IntOp.cmpi .eq (Host.reduce IntOp.addi g (constantI shape0 32 0#32) redS n0 ix0) 8192#32 = 1#1 := h2
  have hs := reduce_sum g (sz g) (g_ap g) redS n0
  rw [hs, IntOp.cmpi_eq] at h3
  have h4 := congrArg BitVec.toNat h3
  rw [BitVec.toNat_ofNat] at h4
  have k0 := hle 0
  have k1 := hle 1
  have k2 := hle 2
  have k3 := hle 3
  have k4 := hle 4
  have hsum : ((List.range 5).map (sz g)).sum = sz g 0 + sz g 1 + sz g 2 + sz g 3 + sz g 4 := by
    simp [List.range_succ]
    try omega
  have h5 : ((List.range 5).map (sz g)).sum = 8192 := by
    have e2 : (8192#32).toNat = 8192 := by decide
    rw [e2] at h4
    simp only [Fin.isValue, Fin.val_zero, Fin.val_one] at k0 k1
    change sz g 2 ≤ _ at k2
    change sz g 3 ≤ _ at k3
    change sz g 4 ≤ _ at k4
    omega
  exact h5

end Cert.Tables
-- ==== Proof.KTables.lean ====
/- What the prefetched tables hold when the kernel starts, and that every block the grid names lies inside its array. -/
module

public import proofs.«01_k».proof.Proof.KRuns
public import proofs.«01_k».proof.Proof.Tables
public import Idealize.ShloMosaic.Lib.StableHlo.RunRead

@[expose] public section

noncomputable section

namespace Cert.Kernel.Run

open Cert.Kernel.Gen
open Idealize.ShloMosaic Idealize.ShloMosaic.TcCoe Idealize.ShloMosaic.Tactic Idealize.ShloMosaic.ValueIdx Idealize.ShloMosaic.Routing

variable {F : FTy → Type} [FloatOps F]
variable (m : (ℓ : Loc nD τ sig) → Buf (Elt F) ℓ)

/-- The group sizes. -/
abbrev gs (c : Dev nD) : IVec Tables.s5 32 := m (c, Proc.tc.devRef main_arg1)

set_option maxRecDepth 16384 in
set_option maxHeartbeats 4000000 in
/-- The table of groups is the one computed from the group sizes. -/
theorem V_grp (c : Dev nD) : V m c main_v25 = Tables.grpA (gs m c) := by
  unfold V
  after_reads_simp
  simp only [StableHlo.TRef.toBuf, StableHlo.TRef.ofBuf, cast_cast, cast_eq, id]
  simp only [Tables.mtA, Tables.loA, Tables.hiA, Tables.atG, Tables.grpA, Tables.idxA, Tables.cendA, Tables.cntA, Tables.t1A, Tables.t0A, Tables.startsA, Tables.endsA, Tables.csum, pyDiv]
  first | done | rfl

set_option maxRecDepth 16384 in
set_option maxHeartbeats 4000000 in
/-- The table of row tiles is the one computed from the group sizes. -/
theorem V_mt (c : Dev nD) : V m c main_v42 = Tables.mtA (gs m c) := by
  unfold V
  after_reads_simp
  simp only [StableHlo.TRef.toBuf, StableHlo.TRef.ofBuf, cast_cast, cast_eq, id]
  simp only [Tables.mtA, Tables.loA, Tables.hiA, Tables.atG, Tables.grpA, Tables.idxA, Tables.cendA, Tables.cntA, Tables.t1A, Tables.t0A, Tables.startsA, Tables.endsA, Tables.csum, pyDiv]
  first | done | rfl

set_option maxRecDepth 16384 in
set_option maxHeartbeats 4000000 in
/-- The table of first rows is the one computed from the group sizes. -/
theorem V_lo (c : Dev nD) : V m c main_v49 = Tables.loA (gs m c) := by
  unfold V
  after_reads_simp
  simp only [StableHlo.TRef.toBuf, StableHlo.TRef.ofBuf, cast_cast, cast_eq, id]
  simp only [Tables.mtA, Tables.loA, Tables.hiA, Tables.atG, Tables.grpA, Tables.idxA, Tables.cendA, Tables.cntA, Tables.t1A, Tables.t0A, Tables.startsA, Tables.endsA, Tables.csum, pyDiv]
  first | done | rfl

set_option maxRecDepth 16384 in
set_option maxHeartbeats 4000000 in
/-- The table of row ends is the one computed from the group sizes. -/
theorem V_hi (c : Dev nD) : V m c main_v56 = Tables.hiA (gs m c) := by
  unfold V
  after_reads_simp
  simp only [StableHlo.TRef.toBuf, StableHlo.TRef.ofBuf, cast_cast, cast_eq, id]
  simp only [Tables.mtA, Tables.loA, Tables.hiA, Tables.atG, Tables.grpA, Tables.idxA, Tables.cendA, Tables.cntA, Tables.t1A, Tables.t0A, Tables.startsA, Tables.endsA, Tables.csum, pyDiv]
  first | done | rfl

set_option maxRecDepth 16384 in
set_option maxHeartbeats 4000000 in
/-- The scale array is the argument with an axis of length one put in. -/
theorem V_ws (c : Dev nD) : V m c main_v58 = shapeCast S5x1x1536 (m (c, Proc.tc.devRef main_arg3) : FVec F S5x1536 .f32) shapeCasts_S5x1536_S5x1x1536 := by
  unfold V
  after_reads_simp
  rfl

/-- The group sizes as numbers. -/
abbrev sizes : ℕ → ℕ := Tables.sz (gs m 0)

/-- The sizes sum to the number of rows. -/
abbrev Full : Prop := Plan.en (sizes m) 4 = 8192

/-- An index map's read of a table is the table's entry at the grid's first coordinate. -/
theorem at_eq (g : IVec Tables.s36 32) (off : Fin 1 → ℕ) (inb : ∀ a, off a + S1.size a ≤ S36.size a) (h1 : (Rect.unit (s := S36) off S1.size inb).shape.numel = 1) (i : Fin 36)
    (h : off 0 = i.val) : g ((Rect.unit (s := S36) off S1.size inb).emb (Shape.Idx.first (h1.symm ▸ Nat.one_pos))) = g (ix1 i) := by
  refine congrArg g (funext fun a => Fin.ext ?_)
  match a with
  | ⟨0, _⟩ =>
    have e : ∀ k : Fin 1, k.val = 0 := fun k => Nat.lt_one_iff.1 k.isLt
    show off 0 + (Shape.Idx.first (s := S1) (by decide) 0).val * 1 = i.val
    rw [h, show (Shape.Idx.first (s := S1) (by decide) 0).val = 0 from e _]
    rfl

/-- A grid's first coordinate as the index that a table is read at. -/
theorem coord_eq (i : grid0.Coords) : (![(Scalar.indexCast (BitVec.ofNat 32 (i 0).val) : Index).toNat] : Fin 1 → ℕ) 0 = (i 0).val := by
  have h : (i 0).val < 36 := (i 0).isLt
  show (BitVec.ofNat 32 (i 0).val).toNat = _
  rw [BitVec.toNat_ofNat, Nat.mod_eq_of_lt (by omega)]

variable (hf : Full m)
include hf

/-- The table of groups, read by an index map. -/
theorem tbl0_at (i : grid0.Coords) : ((tbl m).at 0 (Rect.unit (s := S36) ![(Scalar.indexCast (BitVec.ofNat 32 (i 0).val) : Index).toNat] S1.size (k0_off1_inb i)) numel1_S1 : BitVec 32)
    = BitVec.ofNat 32 (Plan.gr (sizes m) (i 0).val) := by
  refine Eq.trans (at_eq (V m 0 main_v25) _ (k0_off1_inb i) numel1_S1 (i 0) (coord_eq i)) ?_
  rw [V_grp]; exact Tables.grp_ap _ hf _

/-- The table of row tiles, read by an index map. -/
theorem tbl1_at (i : grid0.Coords) : ((tbl m).at 1 (Rect.unit (s := S36) ![(Scalar.indexCast (BitVec.ofNat 32 (i 0).val) : Index).toNat] S1.size (k0_off1_inb i)) numel1_S1 : BitVec 32)
    = BitVec.ofNat 32 (Plan.mt (sizes m) (i 0).val) := by
  refine Eq.trans (at_eq (V m 0 main_v42) _ (k0_off1_inb i) numel1_S1 (i 0) (coord_eq i)) ?_
  rw [V_mt]; exact Tables.mt_ap _ hf _

/-- The block of dy at a grid point: the point's row tile. -/
theorem ix0_eq (i : grid0.Coords) : cc0_transform_0 k0_off1_inb numel1_S1 (tbl m) i = ![Plan.mt (sizes m) (i 0).val, 0] := by
  unfold cc0_transform_0
  have h := Plan.mt_lt _ hf (i 0).val
  have e := congrArg BitVec.toNat (tbl1_at m hf i)
  rw [BitVec.toNat_ofNat, Nat.mod_eq_of_lt (by omega)] at e
  exact congrArg (fun x => (![x, 0] : Fin 2 → ℕ)) e

/-- The block of the result at a grid point: the point's row tile. -/
theorem ix3_eq (i : grid0.Coords) : cc0_transform_3 k0_off1_inb numel1_S1 (tbl m) i = ![Plan.mt (sizes m) (i 0).val, 0] := ix0_eq m hf i

/-- The block of weights at a grid point: the point's group and column block. -/
theorem ix1_eq (i : grid0.Coords) : cc0_transform_1 k0_off1_inb numel1_S1 (tbl m) i = ![Plan.gr (sizes m) (i 0).val, (i 1).val, 0] := by
  unfold cc0_transform_1
  have h := Plan.gr_lt _ hf (i 0).val
  have e := congrArg BitVec.toNat (tbl0_at m hf i)
  rw [BitVec.toNat_ofNat, Nat.mod_eq_of_lt (by omega)] at e
  have e1 : (BitVec.ofNat 32 (i 1).val).toNat = (i 1).val := by
    have h1 : (i 1).val < 3 := (i 1).isLt
    rw [BitVec.toNat_ofNat, Nat.mod_eq_of_lt (by omega)]
  exact congrArg₂ (fun x y => (![x, y, 0] : Fin 3 → ℕ)) e e1

/-- The block of weight scales at a grid point: the point's group and column block. -/
theorem ix2_eq (i : grid0.Coords) : cc0_transform_2 k0_off1_inb numel1_S1 (tbl m) i = ![Plan.gr (sizes m) (i 0).val, 0, (i 1).val] := by
  have e := ix1_eq m hf i
  have e0 := congrFun e 0
  have e1 := congrFun e 1
  exact congrArg₂ (fun x y => (![x, 0, y] : Fin 3 → ℕ)) e0 e1

/-- Every block that the grid names lies inside its array. -/
theorem ok_of_full : Ok m := by
  refine ⟨fun i => ⟨?_, .inr ?_⟩, fun i => ⟨?_, .inr ?_⟩, fun i => ⟨?_, .inl rfl⟩, fun i => ⟨?_, .inr ?_⟩⟩
  · have h := Plan.mt_lt _ hf (i 0).val
    rw [ix0_eq m hf]; intro a
    match a with
    | ⟨0, _⟩ => show (Plan.mt (sizes m) (i 0).val + 1) * 256 ≤ 8192; omega
    | ⟨1, _⟩ => show (0 + 1) * 16384 ≤ 16384; omega
  · exact Affine.block_words_dvd (by decide) (by decide)
  · have h := Plan.gr_lt _ hf (i 0).val
    have h1 : (i 1).val < 3 := (i 1).isLt
    rw [ix1_eq m hf]; intro a
    match a with
    | ⟨0, _⟩ => show (Plan.gr (sizes m) (i 0).val + 1) * 1 ≤ 5; omega
    | ⟨1, _⟩ => show ((i 1).val + 1) * 512 ≤ 1536; omega
    | ⟨2, _⟩ => show (0 + 1) * 16384 ≤ 16384; omega
  · exact Affine.block_words_dvd (by decide) (by decide)
  · have h := Plan.gr_lt _ hf (i 0).val
    have h1 : (i 1).val < 3 := (i 1).isLt
    rw [ix2_eq m hf]; intro a
    match a with
    | ⟨0, _⟩ => show (Plan.gr (sizes m) (i 0).val + 1) * 1 ≤ 5; omega
    | ⟨1, _⟩ => show (0 + 1) * 1 ≤ 1; omega
    | ⟨2, _⟩ => show ((i 1).val + 1) * 512 ≤ 1536; omega
  · have h := Plan.mt_lt _ hf (i 0).val
    rw [ix3_eq m hf]; intro a
    match a with
    | ⟨0, _⟩ => show (Plan.mt (sizes m) (i 0).val + 1) * 256 ≤ 8192; omega
    | ⟨1, _⟩ => show (0 + 1) * 1536 ≤ 1536; omega
  · exact Affine.block_words_dvd (by decide) (by decide)

end Cert.Kernel.Run
-- ==== Proof.IPoints.lean ====
/- The staging buffers of each window at a grid point, and the body as the pipeline calls it there. -/
module

public import proofs.«01_k».proof.Proof.Gen.KernelIdeal
public import Idealize.ShloMosaic.Lib.Pipeline.Kit

@[expose] public section

noncomputable section

namespace Cert.KernelIdeal.Run

open Cert.KernelIdeal.Gen

open Idealize.ShloMosaic Idealize.ShloMosaic.TcCoe
open Idealize.SL Idealize.SL.Sem

variable {F : FTy → Type} [FloatOps F]
/-! ## custom_call 0 -/

/-! A call with PREFETCHED TABLES: its memrefs and body are stated over the pipeline at ANY admissible contents `a`
    of the tables (a certificate instantiates them at the contents it reads off the launch memory). A window whose
    index map reads no table has the same schedule at every `a`: stated over the grid, the window's direction and
    that map alone (Lib/Pipeline/Kit.lean `Window.fetchOf` / `flushOf`), proved from the map and the fact about the
    axes it reads (`hreadsK_W`) or decided, and restated over the pinned window, which unfolds to them. A window whose
    map reads a table gets none here. -/

-- window 0: no schedule fact — its index map reads a prefetched table, so where it is fetched or written back depends on the tables' contents
-- window 1: no schedule fact — its index map reads a prefetched table, so where it is fetched or written back depends on the tables' contents
-- window 2: no schedule fact — its index map reads a prefetched table, so where it is fetched or written back depends on the tables' contents
-- window 3: no schedule fact — its index map reads a prefetched table, so where it is fetched or written back depends on the tables' contents

/-- The current staging memref of each window at point `t`: which of its buffers it is on. -/
abbrev st0_0 (a : (pcfg0 (F := F)).Adm) (t : Fin (cfg0 a).N) := ((cfg0 a).win 0).stage ((cfg0 a).slots t 0)
/-- The second window's staging buffer at a point. -/
abbrev st0_1 (a : (pcfg0 (F := F)).Adm) (t : Fin (cfg0 a).N) := ((cfg0 a).win 1).stage ((cfg0 a).slots t 1)
/-- The third window's staging buffer at a point. -/
abbrev st0_2 (a : (pcfg0 (F := F)).Adm) (t : Fin (cfg0 a).N) := ((cfg0 a).win 2).stage ((cfg0 a).slots t 2)
/-- The fourth window's staging buffer at a point. -/
abbrev st0_3 (a : (pcfg0 (F := F)).Adm) (t : Fin (cfg0 a).N) := ((cfg0 a).win 3).stage ((cfg0 a).slots t 3)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_dgrad (grid0.coords t) (Memref.whole main_v25) (Memref.isWhole_whole _) (Memref.whole main_v42) (Memref.isWhole_whole _) (Memref.whole main_v49) (Memref.isWhole_whole _) (Memref.whole main_v56) (Memref.isWhole_whole _) (Memref.whole main_v57) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (Memref.whole cc0_scratch0) (Memref.isWhole_whole _) (Memref.whole cc0_scratch1) (Memref.isWhole_whole _)

end Cert.KernelIdeal.Run

end
-- ==== Proof.IRuns.lean ====
/- What the region finds: the host operations before it, the prefetched tables, the windows' blocks at a point. -/
module

public import proofs.«01_k».proof.Proof.IPoints
public import proofs.«01_k».proof.Proof.Gen.KernelIdeal.Launch
public import proofs.«01_k».proof.Proof.Gen.KernelIdeal.Skeleton
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Run

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)
/-! ## @main up to the region -/

/-- Core `c`'s TensorCore buffers when the region is entered: after the host operations `hostOps0`, `hostOps0_1`, `hostOps0_2`, `hostOps0_3`, `hostOps0_4`, `hostOps0_5`, `hostOps0_6`, `hostOps0_7`, `hostOps0_8`. -/
abbrev V (c : Dev nD) (b : Ref sig .tc) : Buf (Elt F) ((c : Thread nD τ).loc b) :=
  StableHlo.after (List.flatten [hostOps0, hostOps0_1, hostOps0_2, hostOps0_3, hostOps0_4, hostOps0_5, hostOps0_6, hostOps0_7, hostOps0_8]) (fun b => m (c, b)) b

/-- No operation of this run before the launch needs a fresh buffer. -/
theorem hostOps0_fresh : (hostOps0 : List (HloOp τ sig (Elt F))).Forall fun op => op.fresh = ∅ := by
  simp only [List.Forall]; repeat' constructor
/-- No operation of this run before the launch needs a fresh buffer. -/
theorem hostOps0_1_fresh : (hostOps0_1 : List (HloOp τ sig (Elt F))).Forall fun op => op.fresh = ∅ := by
  simp only [List.Forall]; repeat' constructor
/-- No operation of this run before the launch needs a fresh buffer. -/
theorem hostOps0_2_fresh : (hostOps0_2 : List (HloOp τ sig (Elt F))).Forall fun op => op.fresh = ∅ := by
  simp only [List.Forall]; repeat' constructor
/-- No operation of this run before the launch needs a fresh buffer. -/
theorem hostOps0_3_fresh : (hostOps0_3 : List (HloOp τ sig (Elt F))).Forall fun op => op.fresh = ∅ := by
  simp only [List.Forall]; repeat' constructor
/-- No operation of this run before the launch needs a fresh buffer. -/
theorem hostOps0_4_fresh : (hostOps0_4 : List (HloOp τ sig (Elt F))).Forall fun op => op.fresh = ∅ := by
  simp only [List.Forall]; repeat' constructor
/-- No operation of this run before the launch needs a fresh buffer. -/
theorem hostOps0_5_fresh : (hostOps0_5 : List (HloOp τ sig (Elt F))).Forall fun op => op.fresh = ∅ := by
  simp only [List.Forall]; repeat' constructor
/-- No operation of this run before the launch needs a fresh buffer. -/
theorem hostOps0_6_fresh : (hostOps0_6 : List (HloOp τ sig (Elt F))).Forall fun op => op.fresh = ∅ := by
  simp only [List.Forall]; repeat' constructor
/-- No operation of this run before the launch needs a fresh buffer. -/
theorem hostOps0_7_fresh : (hostOps0_7 : List (HloOp τ sig (Elt F))).Forall fun op => op.fresh = ∅ := by
  simp only [List.Forall]; repeat' constructor
/-- No operation of this run before the launch needs a fresh buffer. -/
theorem hostOps0_8_fresh : (hostOps0_8 : List (HloOp τ sig (Elt F))).Forall fun op => op.fresh = ∅ := by
  simp only [List.Forall]; repeat' constructor

set_option maxHeartbeats 800000 in
/-- @main up to the region, at the certificate's variants `𝒱₀`: the lines of host operations then the region
    (`Pipeline.hmain_prefixes`, off `main_chain`). -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefixes pcfgs 0 defs₀ 𝒱₀ m main [hostOps0, hostOps0_1, hostOps0_2, hostOps0_3, hostOps0_4, hostOps0_5, hostOps0_6, hostOps0_7, hostOps0_8] (by simp only [List.Forall]; exact ⟨hostOps0_sub, hostOps0_1_sub, hostOps0_2_sub, hostOps0_3_sub, hostOps0_4_sub, hostOps0_5_sub, hostOps0_6_sub, hostOps0_7_sub, hostOps0_8_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh⟩) main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 5) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
/-- The pipeline at these tables. -/
abbrev cfgM (hO : Ok m) : Pipeline.Cfg sig Λ₀ := cfg0 (adm m hO)

/-- Each table as the body is handed it: its whole buffer as a memref, and that memref's wholeness. -/
abbrev tbM0_0 : Memref sig .tc .smem S36 .i32 := Memref.whole main_v25
/-- The table is its whole buffer. -/
abbrev htbM0_0 : tbM0_0.IsWhole := Memref.isWhole_whole _
/-- The table as the body is handed it. -/
abbrev tbM0_1 : Memref sig .tc .smem S36 .i32 := Memref.whole main_v42
/-- The table is its whole buffer. -/
abbrev htbM0_1 : tbM0_1.IsWhole := Memref.isWhole_whole _
/-- The table as the body is handed it. -/
abbrev tbM0_2 : Memref sig .tc .smem S36 .i32 := Memref.whole main_v49
/-- The table is its whole buffer. -/
abbrev htbM0_2 : tbM0_2.IsWhole := Memref.isWhole_whole _
/-- The table as the body is handed it. -/
abbrev tbM0_3 : Memref sig .tc .smem S36 .i32 := Memref.whole main_v56
/-- The table is its whole buffer. -/
abbrev htbM0_3 : tbM0_3.IsWhole := Memref.isWhole_whole _
/-- The table as the body is handed it. -/
abbrev tbM0_4 : Memref sig .tc .smem S36 .i32 := Memref.whole main_v57
/-- The table is its whole buffer. -/
abbrev htbM0_4 : tbM0_4.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
/-- The table held at half the full share. -/
abbrev tbPt0 (c : Dev nD) {S : Shape} {e : EltTy} (M : Memref sig .tc .smem S e) (f : TbBuf0 (F := F) c M) : sProp (MT nD τ sig Unit (Elt F) ℕ (UR sig nD τ) ℕ) :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp (MT nD τ sig Unit (Elt F) ℕ (UR sig nD τ) ℕ)) = iprop(tbPt0 c tbM0_0 (tbl m 0) ∗ tbPt0 c tbM0_1 (tbl m 1) ∗ tbPt0 c tbM0_2 (tbl m 2) ∗ tbPt0 c tbM0_3 (tbl m 3) ∗ tbPt0 c tbM0_4 (tbl m 4)) := by
  unfold Pipeline.ΦT Pipeline.prefHeld
  rw [show (Finset.univ : Finset (Fin 5)) = insert (0 : Fin 5) (insert (1 : Fin 5) (insert (2 : Fin 5) (insert (3 : Fin 5) {(4 : Fin 5)}))) from by decide,
    bigSep_insert (by decide), bigSep_insert (by decide), bigSep_insert (by decide), bigSep_insert (by decide), bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_KernelIdeal`, Defs.lean, at any `F`). -/
theorem frame_of (hO : Ok m) (rdat : (c : Dev nD) → Pipeline.RDat τ (Elt F) Unit ℕ (UR sig nD τ) ℕ ((Pipeline.pin pcfgs fun _ => adm m hO) 0) c)
    (hA : ∀ c w, (rdat c).A w = V m c (Pipeline.arrRef spec0 w))
    (h : θ_run defs (onTc (τ := τ) (main (F := F))) (s₀ m ρ) (Pipeline.RDat.FramePost ((Pipeline.pin pcfgs fun _ => adm m hO) 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(Pipeline.RDat.FramePost.arr_in h c 0 rfl).trans ((hA c 0).trans (V_main_arg0 m c)),
      ((h c).2 main_arg1 (by decide : main_arg1 ∈ Pipeline.restRefs sig spec0)).trans (V_main_arg1 m c),
      (Pipeline.RDat.FramePost.arr_in h c 1 rfl).trans ((hA c 1).trans (V_main_arg2 m c)),
      ((h c).2 main_arg3 (by decide : main_arg3 ∈ Pipeline.restRefs sig spec0)).trans (V_main_arg3 m c)⟩) h

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 1).val) 0#32)) 0#32) = 1#1
/-- It holds at the points ≡ 0 (mod 3) — by arithmetic of the point. -/
theorem hcond0_0 : ∀ t : Fin grid0.N, cond0_0 (grid0.coords t) ↔ t.val % 3 = 0 :=
  (fun t => by
    have ht : t.val < 108 := Nat.lt_of_lt_of_eq t.isLt N_0
    have e0 : (grid0.coords t 0).val = t.val / 3 % 36 := Pipeline.Grid.coords_val t 0 (by decide) rfl
    have e1 : (grid0.coords t 1).val = t.val / 1 % 3 := Pipeline.Grid.coords_val t 1 (by decide) rfl
    simp only [cond0_0, e0, e1]
    word_cmp
   : ∀ t : Fin grid0.N, cond0_0 (grid0.coords t) ↔ t.val % 3 = 0)

/-! ## The kernel body on any staging memrefs: a subtype the run finds -/

/-- Each window's current staging memref at point `t`, spelled as the pipeline passes it (`bodyAt0`), and its wholeness. -/
abbrev ms0_0 (hO : Ok m) (t : Fin (cfgM m hO).N) : Memref sig .tc .vmem S256x16384 .bf16 := spec0_0.stage ((cfgM m hO).slots t 0)
/-- The staging buffer is whole. -/
abbrev hs0_0 (hO : Ok m) (t : Fin (cfgM m hO).N) : (ms0_0 m hO t).IsWhole := hstage0_0 (((cfgM m hO).slots t 0).cast nbuf0_0)
/-- The window's staging buffer at a point. -/
abbrev ms0_1 (hO : Ok m) (t : Fin (cfgM m hO).N) : Memref sig .tc .vmem S1x512x16384 .fp8e4m3 := spec0_1.stage ((cfgM m hO).slots t 1)
/-- The staging buffer is whole. -/
abbrev hs0_1 (hO : Ok m) (t : Fin (cfgM m hO).N) : (ms0_1 m hO t).IsWhole := hstage0_1 (((cfgM m hO).slots t 1).cast nbuf0_1)
/-- The window's staging buffer at a point. -/
abbrev ms0_2 (hO : Ok m) (t : Fin (cfgM m hO).N) : Memref sig .tc .vmem S1x1x512 .f32 := spec0_2.stage ((cfgM m hO).slots t 2)
/-- The staging buffer is whole. -/
abbrev hs0_2 (hO : Ok m) (t : Fin (cfgM m hO).N) : (ms0_2 m hO t).IsWhole := hstage0_2 (((cfgM m hO).slots t 2).cast nbuf0_2)
/-- The window's staging buffer at a point. -/
abbrev ms0_3 (hO : Ok m) (t : Fin (cfgM m hO).N) : Memref sig .tc .vmem S256x1536 .bf16 := spec0_3.stage ((cfgM m hO).slots t 3)
/-- The staging buffer is whole. -/
abbrev hs0_3 (hO : Ok m) (t : Fin (cfgM m hO).N) : (ms0_3 m hO t).IsWhole := hstage0_3 (((cfgM m hO).slots t 3).cast nbuf0_3)
/-- The scratch operands: whole scoped buffers of the kernel's own, passed beside the windows. -/
abbrev scM0_0 : Memref sig .tc .vmem S256x16384 .fp8e5m2 := Memref.whole cc0_scratch0
/-- The scratch of scales. -/
abbrev scM0_1 : Memref sig .tc .vmem S256x128 .f32 := Memref.whole cc0_scratch1

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp (MT nD τ sig Unit (Elt F) ℕ (UR sig nD τ) ℕ))
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.KernelIdeal.Run

end
-- ==== Proof.IRunA.lean ====
/- The body at a point whose column block is the first: it quantises its tile, then multiplies. The output is forgotten. -/
module

public import proofs.«01_k».proof.Proof.IRuns

@[expose] public section

-- membership in a rectangle of production extents (`View.cover_of_tiled`): the elaborator's structural look
-- recurses once per coordinate of the long axes
set_option maxRecDepth 16384

noncomputable section

namespace Cert.KernelIdeal.Run

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

-- (the run's proof term is large: checking it walks past the default budget)
set_option maxHeartbeats 1000000 in
/-- The body's triple IN CASE A (`scf.if` 0 taken: points 0, 3, … 105: 36 of 108): on whole staging memrefs — the inputs' at their contents,
    the FORGOTTEN outputs' (3) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_A (c : Dev nD) (i : grid0.Coords) (arg7 : Memref sig .tc .vmem S256x16384 .bf16) (harg7 : arg7.IsWhole) (arg8 : Memref sig .tc .vmem S1x512x16384 .fp8e4m3) (harg8 : arg8.IsWhole) (arg9 : Memref sig .tc .vmem S1x1x512 .f32) (harg9 : arg9.IsWhole) (arg10 : Memref sig .tc .vmem S256x1536 .bf16) (harg10 : arg10.IsWhole) (arg11 : Memref sig .tc .vmem S256x16384 .fp8e5m2) (harg11 : arg11.IsWhole) (arg12 : Memref sig .tc .vmem S256x128 .f32) (harg12 : arg12.IsWhole) (hc0 : cond0_0 i)
    (x0 : Vec F S256x16384 .bf16) (x1 : Vec F S1x512x16384 .fp8e4m3) (x2 : Vec F S1x1x512 .f32) (xt0 : TbBuf0 (F := F) c tbM0_0) (xt1 : TbBuf0 (F := F) c tbM0_1) (xt2 : TbBuf0 (F := F) c tbM0_2) (xt3 : TbBuf0 (F := F) c tbM0_3) (xt4 : TbBuf0 (F := F) c tbM0_4) :
      ∀ (E : Set ℕ) (K : PUnit → sProp (MT nD τ sig Unit (Elt F) ℕ (UR sig nD τ) ℕ)),
        iprop(owns (c : Thread nD τ) arg7 fullShare x0 ∗ owns (c : Thread nD τ) arg8 fullShare x1 ∗ owns (c : Thread nD τ) arg9 fullShare x2 ∗ (∃ d, owns (c : Thread nD τ) arg10 fullShare d) ∗ (∃ d, owns (c : Thread nD τ) arg11 fullShare d) ∗ (∃ d, owns (c : Thread nD τ) arg12 fullShare d) ∗ tbPt0 c tbM0_0 xt0 ∗ tbPt0 c tbM0_1 xt1 ∗ tbPt0 c tbM0_2 xt2 ∗ tbPt0 c tbM0_3 xt3 ∗ tbPt0 c tbM0_4 xt4
            ∗ (iprop(owns (c : Thread nD τ) arg7 fullShare x0 ∗ owns (c : Thread nD τ) arg8 fullShare x1 ∗ owns (c : Thread nD τ) arg9 fullShare x2 ∗ (∃ d, owns (c : Thread nD τ) arg10 fullShare d) ∗ (∃ d, owns (c : Thread nD τ) arg11 fullShare d) ∗ (∃ d, owns (c : Thread nD τ) arg12 fullShare d) ∗ tbPt0 c tbM0_0 xt0 ∗ tbPt0 c tbM0_1 xt1 ∗ tbPt0 c tbM0_2 xt2 ∗ tbPt0 c tbM0_3 xt3 ∗ tbPt0 c tbM0_4 xt4) -∗ K ⟨⟩))
          ⊢ wp frame (wpE (defs₀ (F := F)) Variants.none c none) E (cc0_dgrad i tbM0_0 htbM0_0 tbM0_1 htbM0_1 tbM0_2 htbM0_2 tbM0_3 htbM0_3 tbM0_4 htbM0_4 arg7 harg7 arg8 harg8 arg9 harg9 arg10 harg10 arg11 harg11 arg12 harg12) K := by
    intro E K
    simp only [cc0_dgrad_eq_skeleton]; unfold cc0_dgrad_skel
    simp only [k0_part23_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton]
    unfold owns
    iintro ⟨⟨%f0, %hf0, H0⟩, ⟨%f1, %hf1, H1⟩, ⟨%f2, %hf2, H2⟩, ⟨%d3, %f3, -, H3⟩, ⟨%ds0, %fs0, -, HS0⟩, ⟨%ds1, %fs1, -, HS1⟩, HT0, HT1, HT2, HT3, HT4, Hk⟩
    obtain rfl := harg7.eq_unread hf0; obtain rfl := harg8.eq_unread hf1; obtain rfl := harg9.eq_unread hf2
    sl_exec (disch := first | sl_exact hc0)
    sl_step
    iapply Hk
    isplitl [H0]
    · iexists _; isplitr; · ipureintro; exact harg7.read_unread _
      iexact H0
    isplitl [H1]
    · iexists _; isplitr; · ipureintro; exact harg8.read_unread _
      iexact H1
    isplitl [H2]
    · iexists _; isplitr; · ipureintro; exact harg9.read_unread _
      iexact H2
    isplitl [H3]
    · iexists _, _; isplitr; swap; · iexact H3
      ipureintro; rfl
    isplitl [HS0]
    · iexists _, _; isplitr; swap; · iexact HS0
      ipureintro; rfl
    isplitl [HS1]
    · iexists _, _; isplitr; swap; · iexact HS1
      ipureintro; rfl
    isplitl [HT0]; · iexact HT0
    isplitl [HT1]; · iexact HT1
    isplitl [HT2]; · iexact HT2
    isplitl [HT3]; · iexact HT3
    iexact HT4

end Cert.KernelIdeal.Run

end
-- ==== Proof.IRunB.lean ====
/- The body at a point whose column block is not the first: it multiplies what the scratch holds. The output is forgotten. -/
module

public import proofs.«01_k».proof.Proof.IRuns

@[expose] public section

-- membership in a rectangle of production extents (`View.cover_of_tiled`): the elaborator's structural look
-- recurses once per coordinate of the long axes
set_option maxRecDepth 16384

noncomputable section

namespace Cert.KernelIdeal.Run

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

-- (the run's proof term is large: checking it walks past the default budget)
set_option maxHeartbeats 1000000 in
/-- The body's triple IN CASE B (`scf.if` 0 not taken: points 1, 2, … 107: 72 of 108): on whole staging memrefs — the inputs' at their contents,
    the FORGOTTEN outputs' (3) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_B (c : Dev nD) (i : grid0.Coords) (arg7 : Memref sig .tc .vmem S256x16384 .bf16) (harg7 : arg7.IsWhole) (arg8 : Memref sig .tc .vmem S1x512x16384 .fp8e4m3) (harg8 : arg8.IsWhole) (arg9 : Memref sig .tc .vmem S1x1x512 .f32) (harg9 : arg9.IsWhole) (arg10 : Memref sig .tc .vmem S256x1536 .bf16) (harg10 : arg10.IsWhole) (arg11 : Memref sig .tc .vmem S256x16384 .fp8e5m2) (harg11 : arg11.IsWhole) (arg12 : Memref sig .tc .vmem S256x128 .f32) (harg12 : arg12.IsWhole) (hc0 : ¬cond0_0 i)
    (x0 : Vec F S256x16384 .bf16) (x1 : Vec F S1x512x16384 .fp8e4m3) (x2 : Vec F S1x1x512 .f32) (xt0 : TbBuf0 (F := F) c tbM0_0) (xt1 : TbBuf0 (F := F) c tbM0_1) (xt2 : TbBuf0 (F := F) c tbM0_2) (xt3 : TbBuf0 (F := F) c tbM0_3) (xt4 : TbBuf0 (F := F) c tbM0_4) :
      ∀ (E : Set ℕ) (K : PUnit → sProp (MT nD τ sig Unit (Elt F) ℕ (UR sig nD τ) ℕ)),
        iprop(owns (c : Thread nD τ) arg7 fullShare x0 ∗ owns (c : Thread nD τ) arg8 fullShare x1 ∗ owns (c : Thread nD τ) arg9 fullShare x2 ∗ (∃ d, owns (c : Thread nD τ) arg10 fullShare d) ∗ (∃ d, owns (c : Thread nD τ) arg11 fullShare d) ∗ (∃ d, owns (c : Thread nD τ) arg12 fullShare d) ∗ tbPt0 c tbM0_0 xt0 ∗ tbPt0 c tbM0_1 xt1 ∗ tbPt0 c tbM0_2 xt2 ∗ tbPt0 c tbM0_3 xt3 ∗ tbPt0 c tbM0_4 xt4
            ∗ (iprop(owns (c : Thread nD τ) arg7 fullShare x0 ∗ owns (c : Thread nD τ) arg8 fullShare x1 ∗ owns (c : Thread nD τ) arg9 fullShare x2 ∗ (∃ d, owns (c : Thread nD τ) arg10 fullShare d) ∗ (∃ d, owns (c : Thread nD τ) arg11 fullShare d) ∗ (∃ d, owns (c : Thread nD τ) arg12 fullShare d) ∗ tbPt0 c tbM0_0 xt0 ∗ tbPt0 c tbM0_1 xt1 ∗ tbPt0 c tbM0_2 xt2 ∗ tbPt0 c tbM0_3 xt3 ∗ tbPt0 c tbM0_4 xt4) -∗ K ⟨⟩))
          ⊢ wp frame (wpE (defs₀ (F := F)) Variants.none c none) E (cc0_dgrad i tbM0_0 htbM0_0 tbM0_1 htbM0_1 tbM0_2 htbM0_2 tbM0_3 htbM0_3 tbM0_4 htbM0_4 arg7 harg7 arg8 harg8 arg9 harg9 arg10 harg10 arg11 harg11 arg12 harg12) K := by
    intro E K
    simp only [cc0_dgrad_eq_skeleton]; unfold cc0_dgrad_skel
    unfold owns
    iintro ⟨⟨%f0, %hf0, H0⟩, ⟨%f1, %hf1, H1⟩, ⟨%f2, %hf2, H2⟩, ⟨%d3, %f3, -, H3⟩, ⟨%ds0, %fs0, -, HS0⟩, ⟨%ds1, %fs1, -, HS1⟩, HT0, HT1, HT2, HT3, HT4, Hk⟩
    obtain rfl := harg7.eq_unread hf0; obtain rfl := harg8.eq_unread hf1; obtain rfl := harg9.eq_unread hf2
    sl_exec (disch := first | sl_exact hc0)
    sl_step
    iapply Hk
    isplitl [H0]
    · iexists _; isplitr; · ipureintro; exact harg7.read_unread _
      iexact H0
    isplitl [H1]
    · iexists _; isplitr; · ipureintro; exact harg8.read_unread _
      iexact H1
    isplitl [H2]
    · iexists _; isplitr; · ipureintro; exact harg9.read_unread _
      iexact H2
    isplitl [H3]
    · iexists _, _; isplitr; swap; · iexact H3
      ipureintro; rfl
    isplitl [HS0]
    · iexists _, _; isplitr; swap; · iexact HS0
      ipureintro; rfl
    isplitl [HS1]
    · iexists _, _; isplitr; swap; · iexact HS1
      ipureintro; rfl
    isplitl [HT0]; · iexact HT0
    isplitl [HT1]; · iexact HT1
    isplitl [HT2]; · iexact HT2
    isplitl [HT3]; · iexact HT3
    iexact HT4

end Cert.KernelIdeal.Run

end
-- ==== Proof.IFrame.lean ====
/- The kernel as taken runs, whatever the floats are: every execution ends, nothing faults, the arguments end unchanged. -/
module

public import proofs.«01_k».proof.Proof.IRunA
public import proofs.«01_k».proof.Proof.IRunB
public import Idealize.ShloMosaic.Lib.Claim

@[expose] public section

-- membership in a rectangle of production extents (`View.cover_of_tiled`): the elaborator's structural look
-- recurses once per coordinate of the long axes
set_option maxRecDepth 16384

noncomputable section

namespace Cert.KernelIdeal.Run

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)
/-! ## The pipeline's proof data -/

/-- The output windows this certificate FORGETS (3): nothing reads what the kernel leaves in them, so nothing
    of it is named (Lib/Pipeline/Dat.lean `Dat.toRForget`). -/
def forgets0 : Fin 4 → Bool := fun w => w.val == 3

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register) and the tables' halves (`ΦT`); nothing owed;
    full shares. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, h⟩ => Pipeline.Dat.unnamed (cfg := (cfgM m hO)) ⟨3, h⟩ t
  Φ _ := iprop(Pipeline.ΦA spec0 c ∗ Pipeline.ΦT pre0 (tbl m) c)
  q _ := fullShare
  owed _ := 0

/-- The proof data's arrays are the region-entry contents: the proof data's definition projected (`dsimp`), so that
    `V` — a fold over @main's host prefix, long for some programs — is never unfolded to check it. -/
theorem A_eq (hO : Ok m) (c : Dev nD) (w : Fin (cfgM m hO).W) : (dats m hO 0 c).A w = V m c (Pipeline.arrRef spec0 w) := by
  dsimp only [dats]

/-- What the body leaves, window by window (the proof data's `match` reduced by `dsimp`). -/
theorem after0_0 (hO : Ok m) (c : Dev nD) (t : Fin (cfgM m hO).N) : (dats m hO 0 c).after 0 t = iblk m hO c 0 t := by dsimp only [dats]; try rfl
/-- The body leaves the weights as they were. -/
theorem after0_1 (hO : Ok m) (c : Dev nD) (t : Fin (cfgM m hO).N) : (dats m hO 0 c).after 1 t = iblk m hO c 1 t := by dsimp only [dats]; try rfl
/-- The body leaves the weight scales as they were. -/
theorem after0_2 (hO : Ok m) (c : Dev nD) (t : Fin (cfgM m hO).N) : (dats m hO 0 c).after 2 t = iblk m hO c 2 t := by dsimp only [dats]; try rfl

/-- Each input's current staging buffer holds its block at every point, fetched there or not (`beforeK_W_of`). -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
/-- The second window holds its weights at every point. -/
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
/-- The third window holds its weight scales at every point. -/
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d

/-! ## The body obligation, at a generic point -/

/-- What the body is called with at point `t` (Lib/Pipeline.lean `BodyObligation`'s precondition, the windows one by one), -/
def bodyPre (hO : Ok m) (c : Dev nD) (t : Fin (cfgM m hO).N) : sProp (MT nD τ sig Unit (Elt F) ℕ (UR sig nD τ) ℕ) :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare d))

/-- and what it returns. -/
def bodyPost (hO : Ok m) (c : Dev nD) (t : Fin (cfgM m hO).N) : sProp (MT nD τ sig Unit (Elt F) ℕ (UR sig nD τ) ℕ) :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t)
    ∗ (∃ d, owns (c : Thread nD τ) (ms0_3 m hO t) fullShare d))

set_option maxHeartbeats 800000 in
/-- The body at any point: the inputs' memrefs hold their blocks (`before0_W`); the closed forms say which case the point is in (`by_cases`), an output the case reads before covering holds what the point before left (`before0_W_κ`); so the
    run applies; the invariant hands the body its scratch buffers at some contents (and the generator register) and takes them back at some contents (`PhiA_eq`); the core owes nothing throughout. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2]
  rw [show (dats m hO 0 c).Φ t.succ = (dats m hO 0 c).Φ t.castSucc from rfl,
    show (dats m hO 0 c).owesAt () t.succ = (dats m hO 0 c).owesAt () t.castSucc from rfl,
    after0_0, after0_1, after0_2]
  rw [show (dats m hO 0 c).Φ t.castSucc = iprop(Pipeline.ΦA spec0 c ∗ Pipeline.ΦT pre0 (tbl m) c) from rfl, PhiT0_eq, PhiA0_eq]
  have hN : t.val < 108 := lt_of_lt_of_eq t.isLt (show (cfgM m hO).N = 108 from N_0)
  by_cases h0 : t.val % 3 = 0
  · iintro ⟨⟨⟨⟨HS0, HS1⟩, Hg⟩, ⟨HT0, HT1, HT2, HT3, HT4⟩⟩, Ho, ⟨%d0, H0⟩, ⟨%d1, H1⟩, ⟨%d2, H2⟩, ⟨%d3, H3⟩⟩
    iapply ((kernelRun0_A c (grid0.coords t) _ _ _ _ _ _ _ _ _ _ _ _ ((hcond0_0 t).mpr h0) (iblk m hO c 0 t) (iblk m hO c 1 t) (iblk m hO c 2 t) (tbl m 0) (tbl m 1) (tbl m 2) (tbl m 3) (tbl m 4)) Set.univ _)
    isplitl [H0]; · iexact H0
    isplitl [H1]; · iexact H1
    isplitl [H2]; · iexact H2
    isplitl [H3]; · iexists _; iexact H3
    isplitl [HS0]; · iexact HS0
    isplitl [HS1]; · iexact HS1
    isplitl [HT0]; · iexact HT0
    isplitl [HT1]; · iexact HT1
    isplitl [HT2]; · iexact HT2
    isplitl [HT3]; · iexact HT3
    isplitl [HT4]; · iexact HT4
    iintro ⟨H0, H1, H2, H3, HS0, HS1, HT0, HT1, HT2, HT3, HT4⟩
    isplitl [HS0 HS1 Hg HT0 HT1 HT2 HT3 HT4]
    · isplitl [HS0 HS1 Hg]
      · isplitl [HS0 HS1]
        · isplitl [HS0]
          · iexact HS0
          iexact HS1
        iexact Hg
      isplitl [HT0]; · iexact HT0
      isplitl [HT1]; · iexact HT1
      isplitl [HT2]; · iexact HT2
      isplitl [HT3]; · iexact HT3
      iexact HT4
    isplitl [Ho]; · iexact Ho
    isplitl [H0]; · iexact H0
    isplitl [H1]; · iexact H1
    isplitl [H2]; · iexact H2
    iexact H3
  · iintro ⟨⟨⟨⟨HS0, HS1⟩, Hg⟩, ⟨HT0, HT1, HT2, HT3, HT4⟩⟩, Ho, ⟨%d0, H0⟩, ⟨%d1, H1⟩, ⟨%d2, H2⟩, ⟨%d3, H3⟩⟩
    iapply ((kernelRun0_B c (grid0.coords t) _ _ _ _ _ _ _ _ _ _ _ _ (fun h => h0 ((hcond0_0 t).mp h)) (iblk m hO c 0 t) (iblk m hO c 1 t) (iblk m hO c 2 t) (tbl m 0) (tbl m 1) (tbl m 2) (tbl m 3) (tbl m 4)) Set.univ _)
    isplitl [H0]; · iexact H0
    isplitl [H1]; · iexact H1
    isplitl [H2]; · iexact H2
    isplitl [H3]; · iexists _; iexact H3
    isplitl [HS0]; · iexact HS0
    isplitl [HS1]; · iexact HS1
    isplitl [HT0]; · iexact HT0
    isplitl [HT1]; · iexact HT1
    isplitl [HT2]; · iexact HT2
    isplitl [HT3]; · iexact HT3
    isplitl [HT4]; · iexact HT4
    iintro ⟨H0, H1, H2, H3, HS0, HS1, HT0, HT1, HT2, HT3, HT4⟩
    isplitl [HS0 HS1 Hg HT0 HT1 HT2 HT3 HT4]
    · isplitl [HS0 HS1 Hg]
      · isplitl [HS0 HS1]
        · isplitl [HS0]
          · iexact HS0
          iexact HS1
        iexact Hg
      isplitl [HT0]; · iexact HT0
      isplitl [HT1]; · iexact HT1
      isplitl [HT2]; · iexact HT2
      isplitl [HT3]; · iexact HT3
      iexact HT4
    isplitl [Ho]; · iexact Ho
    isplitl [H0]; · iexact H0
    isplitl [H1]; · iexact H1
    isplitl [H2]; · iexact H2
    iexact H3

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The library's body obligation, at every point: the body's triple restated (Lib/Pipeline/FrameBody.lean `triple_restated`). -/
theorem body_obligation (hO : Ok m) (c : Dev nD) : BodyObligation (dats (F := F) m hO 0 c) (defs₀ (F := F)) Variants.none () Set.univ forgets0 := fun t => by
  rw [bigSep_W0, bigSep_W0, defs₀_row m hO]
  exact triple_restated (sound_body m hO c t) rfl .rfl fun _ => .rfl

/-! ## The run and the frame -/

-- `θ_run_frameP_forget`'s implicit arguments are found by unifying its conclusion with this one, which takes unfolding plain
-- definitions in a metavariable's type
set_option maxHeartbeats 4000000 in
set_option backward.isDefEq.respectTransparency.types false in
/-- THE LAUNCH: `run_main`'s statement, and every semaphore counter of the machine at zero at every final state. -/
theorem run_main_quiescent (hO : Ok m) : θ_run defs (onTc (τ := τ) (main (F := F))) (s₀ m ρ) (fun r => (Pipeline.RDat.FramePost ((Pipeline.pin pcfgs fun _ => adm m hO) 0) (fun c => (dats m hO 0 c).toRForget forgets0) (V m)) r ∧ r.2.sem = fun _ => 0) :=
  Pipeline.θ_run_frameP_forget (Q' := _) pcfgs (fun _ => adm m hO) (dats m hO) (0 : Fin 1) launch0 defs₀ Variants.none forgets0 m ρ main
    (hbody := fun c => (body_obligation m hO c).loose) (hshare := fun c => (dats m hO 0 c).share_full fun _ => rfl)
    (howed := fun _ _ => rfl) (V := V m) (hmain := hmain m Variants.none) (hA := A_eq m hO) (hpf := V_pre m) (hΦ := fun _ _ => rfl)

/-- At the compiled mesh, for any values, from any memory with zero counters: every weakly fair execution of @main on the
    TensorCores terminates, and every final state has every INPUT array of the pipeline unchanged, nothing stated of the
    FORGOTTEN outputs (window 3) (Lib/Pipeline/Frame.lean `RDat.FramePost` over the proof data with those windows
    forgotten, Dat.lean `Dat.toRForget`), and every other unscoped buffer at its region-entry contents. -/
theorem run_main (hO : Ok m) : θ_run defs (onTc (τ := τ) (main (F := F))) (s₀ m ρ) (Pipeline.RDat.FramePost ((Pipeline.pin pcfgs fun _ => adm m hO) 0) (fun c => (dats m hO 0 c).toRForget forgets0) (V m)) :=
  (θ_run defs _ _).mono (fun _ h => h.1) (run_main_quiescent m ρ hO)

/-- `frame` without the counters: the argument arrays end unchanged. -/
theorem unchanged (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ hO (fun c => (dats m hO 0 c).toRForget forgets0) (A_eq m hO) (run_main m ρ hO)

/-- THE FRAME: `Cert.quiescent_Kernel`'s statement (Defs.lean) at any `F` — Proof.lean cites it at `Bits`:
    `theorem Cert.Proof.claim : Cert.Claim := ⟨Cert.KernelIdeal.Gen.facts, fun m ρ _ => Cert.KernelIdeal.Gen.frame m ρ⟩`; here for every contents of the PREFETCHED TABLES, UNDER `Gen.Ok m` (the pipeline's side condition of
    them), which Proof.lean proves from the precondition: `⟨…, fun m ρ h => Cert.KernelIdeal.Gen.frame m ρ (ok_of_pre m h)⟩`. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ hO) ((θ_run defs _ _).mono (fun _ h => h.2) (run_main_quiescent m ρ hO))

end Cert.KernelIdeal.Run

end
-- ==== Proof.ITables.lean ====
/- What the prefetched tables hold when the kernel starts, and that every block the grid names lies inside its array. -/
module

public import proofs.«01_k».proof.Proof.IRuns
public import proofs.«01_k».proof.Proof.Tables
public import Idealize.ShloMosaic.Lib.StableHlo.RunRead

@[expose] public section

noncomputable section

namespace Cert.KernelIdeal.Run

open Cert.KernelIdeal.Gen
open Idealize.ShloMosaic Idealize.ShloMosaic.TcCoe Idealize.ShloMosaic.Tactic Idealize.ShloMosaic.ValueIdx Idealize.ShloMosaic.Routing

variable {F : FTy → Type} [FloatOps F]
variable (m : (ℓ : Loc nD τ sig) → Buf (Elt F) ℓ)

/-- The group sizes. -/
abbrev gs (c : Dev nD) : IVec Tables.s5 32 := m (c, Proc.tc.devRef main_arg1)

set_option maxRecDepth 16384 in
set_option maxHeartbeats 4000000 in
/-- The table of groups is the one computed from the group sizes. -/
theorem V_grp (c : Dev nD) : V m c main_v25 = Tables.grpA (gs m c) := by
  unfold V
  after_reads_simp
  simp only [StableHlo.TRef.toBuf, StableHlo.TRef.ofBuf, cast_cast, cast_eq, id]
  simp only [Tables.mtA, Tables.loA, Tables.hiA, Tables.atG, Tables.grpA, Tables.idxA, Tables.cendA, Tables.cntA, Tables.t1A, Tables.t0A, Tables.startsA, Tables.endsA, Tables.csum, pyDiv]
  first | done | rfl

set_option maxRecDepth 16384 in
set_option maxHeartbeats 4000000 in
/-- The table of row tiles is the one computed from the group sizes. -/
theorem V_mt (c : Dev nD) : V m c main_v42 = Tables.mtA (gs m c) := by
  unfold V
  after_reads_simp
  simp only [StableHlo.TRef.toBuf, StableHlo.TRef.ofBuf, cast_cast, cast_eq, id]
  simp only [Tables.mtA, Tables.loA, Tables.hiA, Tables.atG, Tables.grpA, Tables.idxA, Tables.cendA, Tables.cntA, Tables.t1A, Tables.t0A, Tables.startsA, Tables.endsA, Tables.csum, pyDiv]
  first | done | rfl

set_option maxRecDepth 16384 in
set_option maxHeartbeats 4000000 in
/-- The table of first rows is the one computed from the group sizes. -/
theorem V_lo (c : Dev nD) : V m c main_v49 = Tables.loA (gs m c) := by
  unfold V
  after_reads_simp
  simp only [StableHlo.TRef.toBuf, StableHlo.TRef.ofBuf, cast_cast, cast_eq, id]
  simp only [Tables.mtA, Tables.loA, Tables.hiA, Tables.atG, Tables.grpA, Tables.idxA, Tables.cendA, Tables.cntA, Tables.t1A, Tables.t0A, Tables.startsA, Tables.endsA, Tables.csum, pyDiv]
  first | done | rfl

set_option maxRecDepth 16384 in
set_option maxHeartbeats 4000000 in
/-- The table of row ends is the one computed from the group sizes. -/
theorem V_hi (c : Dev nD) : V m c main_v56 = Tables.hiA (gs m c) := by
  unfold V
  after_reads_simp
  simp only [StableHlo.TRef.toBuf, StableHlo.TRef.ofBuf, cast_cast, cast_eq, id]
  simp only [Tables.mtA, Tables.loA, Tables.hiA, Tables.atG, Tables.grpA, Tables.idxA, Tables.cendA, Tables.cntA, Tables.t1A, Tables.t0A, Tables.startsA, Tables.endsA, Tables.csum, pyDiv]
  first | done | rfl

set_option maxRecDepth 16384 in
set_option maxHeartbeats 4000000 in
/-- The scale array is the argument with an axis of length one put in. -/
theorem V_ws (c : Dev nD) : V m c main_v58 = shapeCast S5x1x1536 (m (c, Proc.tc.devRef main_arg3) : FVec F S5x1536 .f32) shapeCasts_S5x1536_S5x1x1536 := by
  unfold V
  after_reads_simp
  rfl

/-- The group sizes as numbers. -/
abbrev sizes : ℕ → ℕ := Tables.sz (gs m 0)

/-- The sizes sum to the number of rows. -/
abbrev Full : Prop := Plan.en (sizes m) 4 = 8192

/-- An index map's read of a table is the table's entry at the grid's first coordinate. -/
theorem at_eq (g : IVec Tables.s36 32) (off : Fin 1 → ℕ) (inb : ∀ a, off a + S1.size a ≤ S36.size a) (h1 : (Rect.unit (s := S36) off S1.size inb).shape.numel = 1) (i : Fin 36)
    (h : off 0 = i.val) : g ((Rect.unit (s := S36) off S1.size inb).emb (Shape.Idx.first (h1.symm ▸ Nat.one_pos))) = g (ix1 i) := by
  refine congrArg g (funext fun a => Fin.ext ?_)
  match a with
  | ⟨0, _⟩ =>
    have e : ∀ k : Fin 1, k.val = 0 := fun k => Nat.lt_one_iff.1 k.isLt
    show off 0 + (Shape.Idx.first (s := S1) (by decide) 0).val * 1 = i.val
    rw [h, show (Shape.Idx.first (s := S1) (by decide) 0).val = 0 from e _]
    rfl

/-- A grid's first coordinate as the index that a table is read at. -/
theorem coord_eq (i : grid0.Coords) : (![(Scalar.indexCast (BitVec.ofNat 32 (i 0).val) : Index).toNat] : Fin 1 → ℕ) 0 = (i 0).val := by
  have h : (i 0).val < 36 := (i 0).isLt
  show (BitVec.ofNat 32 (i 0).val).toNat = _
  rw [BitVec.toNat_ofNat, Nat.mod_eq_of_lt (by omega)]

variable (hf : Full m)
include hf

/-- The table of groups, read by an index map. -/
theorem tbl0_at (i : grid0.Coords) : ((tbl m).at 0 (Rect.unit (s := S36) ![(Scalar.indexCast (BitVec.ofNat 32 (i 0).val) : Index).toNat] S1.size (k0_off1_inb i)) numel1_S1 : BitVec 32)
    = BitVec.ofNat 32 (Plan.gr (sizes m) (i 0).val) := by
  refine Eq.trans (at_eq (V m 0 main_v25) _ (k0_off1_inb i) numel1_S1 (i 0) (coord_eq i)) ?_
  rw [V_grp]; exact Tables.grp_ap _ hf _

/-- The table of row tiles, read by an index map. -/
theorem tbl1_at (i : grid0.Coords) : ((tbl m).at 1 (Rect.unit (s := S36) ![(Scalar.indexCast (BitVec.ofNat 32 (i 0).val) : Index).toNat] S1.size (k0_off1_inb i)) numel1_S1 : BitVec 32)
    = BitVec.ofNat 32 (Plan.mt (sizes m) (i 0).val) := by
  refine Eq.trans (at_eq (V m 0 main_v42) _ (k0_off1_inb i) numel1_S1 (i 0) (coord_eq i)) ?_
  rw [V_mt]; exact Tables.mt_ap _ hf _

/-- The block of dy at a grid point: the point's row tile. -/
theorem ix0_eq (i : grid0.Coords) : cc0_transform_0 k0_off1_inb numel1_S1 (tbl m) i = ![Plan.mt (sizes m) (i 0).val, 0] := by
  unfold cc0_transform_0
  have h := Plan.mt_lt _ hf (i 0).val
  have e := congrArg BitVec.toNat (tbl1_at m hf i)
  rw [BitVec.toNat_ofNat, Nat.mod_eq_of_lt (by omega)] at e
  exact congrArg (fun x => (![x, 0] : Fin 2 → ℕ)) e

/-- The block of the result at a grid point: the point's row tile. -/
theorem ix3_eq (i : grid0.Coords) : cc0_transform_3 k0_off1_inb numel1_S1 (tbl m) i = ![Plan.mt (sizes m) (i 0).val, 0] := ix0_eq m hf i

/-- The block of weights at a grid point: the point's group and column block. -/
theorem ix1_eq (i : grid0.Coords) : cc0_transform_1 k0_off1_inb numel1_S1 (tbl m) i = ![Plan.gr (sizes m) (i 0).val, (i 1).val, 0] := by
  unfold cc0_transform_1
  have h := Plan.gr_lt _ hf (i 0).val
  have e := congrArg BitVec.toNat (tbl0_at m hf i)
  rw [BitVec.toNat_ofNat, Nat.mod_eq_of_lt (by omega)] at e
  have e1 : (BitVec.ofNat 32 (i 1).val).toNat = (i 1).val := by
    have h1 : (i 1).val < 3 := (i 1).isLt
    rw [BitVec.toNat_ofNat, Nat.mod_eq_of_lt (by omega)]
  exact congrArg₂ (fun x y => (![x, y, 0] : Fin 3 → ℕ)) e e1

/-- The block of weight scales at a grid point: the point's group and column block. -/
theorem ix2_eq (i : grid0.Coords) : cc0_transform_2 k0_off1_inb numel1_S1 (tbl m) i = ![Plan.gr (sizes m) (i 0).val, 0, (i 1).val] := by
  have e := ix1_eq m hf i
  have e0 := congrFun e 0
  have e1 := congrFun e 1
  exact congrArg₂ (fun x y => (![x, 0, y] : Fin 3 → ℕ)) e0 e1

/-- Every block that the grid names lies inside its array. -/
theorem ok_of_full : Ok m := by
  refine ⟨fun i => ⟨?_, .inr ?_⟩, fun i => ⟨?_, .inr ?_⟩, fun i => ⟨?_, .inl rfl⟩, fun i => ⟨?_, .inr ?_⟩⟩
  · have h := Plan.mt_lt _ hf (i 0).val
    rw [ix0_eq m hf]; intro a
    match a with
    | ⟨0, _⟩ => show (Plan.mt (sizes m) (i 0).val + 1) * 256 ≤ 8192; omega
    | ⟨1, _⟩ => show (0 + 1) * 16384 ≤ 16384; omega
  · exact Affine.block_words_dvd (by decide) (by decide)
  · have h := Plan.gr_lt _ hf (i 0).val
    have h1 : (i 1).val < 3 := (i 1).isLt
    rw [ix1_eq m hf]; intro a
    match a with
    | ⟨0, _⟩ => show (Plan.gr (sizes m) (i 0).val + 1) * 1 ≤ 5; omega
    | ⟨1, _⟩ => show ((i 1).val + 1) * 512 ≤ 1536; omega
    | ⟨2, _⟩ => show (0 + 1) * 16384 ≤ 16384; omega
  · exact Affine.block_words_dvd (by decide) (by decide)
  · have h := Plan.gr_lt _ hf (i 0).val
    have h1 : (i 1).val < 3 := (i 1).isLt
    rw [ix2_eq m hf]; intro a
    match a with
    | ⟨0, _⟩ => show (Plan.gr (sizes m) (i 0).val + 1) * 1 ≤ 5; omega
    | ⟨1, _⟩ => show (0 + 1) * 1 ≤ 1; omega
    | ⟨2, _⟩ => show ((i 1).val + 1) * 512 ≤ 1536; omega
  · have h := Plan.mt_lt _ hf (i 0).val
    rw [ix3_eq m hf]; intro a
    match a with
    | ⟨0, _⟩ => show (Plan.mt (sizes m) (i 0).val + 1) * 256 ≤ 8192; omega
    | ⟨1, _⟩ => show (0 + 1) * 1536 ≤ 1536; omega
  · exact Affine.block_words_dvd (by decide) (by decide)

end Cert.KernelIdeal.Run
-- ==== Proof.IValA.lean ====
/- The body where the column block is the first: what it writes, given what it finds in the output tile. -/
module

public import proofs.«01_k».proof.Proof.IRuns

@[expose] public section

-- membership in a rectangle of production extents (`View.cover_of_tiled`): the elaborator's structural look
-- recurses once per coordinate of the long axes
set_option maxRecDepth 16384

noncomputable section

namespace Cert.KernelIdeal.Run

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

-- (the run's proof term is large: checking it walks past the default budget)
set_option maxHeartbeats 1000000 in
/-- What the body stores, as pieces (last first), with the proof that it runs: the column block of the output, the eight row chunks of the codes and of the scales. -/
noncomputable def valueRunA (c : Dev nD) (i : grid0.Coords) (arg7 : Memref sig .tc .vmem S256x16384 .bf16) (harg7 : arg7.IsWhole) (arg8 : Memref sig .tc .vmem S1x512x16384 .fp8e4m3) (harg8 : arg8.IsWhole) (arg9 : Memref sig .tc .vmem S1x1x512 .f32) (harg9 : arg9.IsWhole) (arg10 : Memref sig .tc .vmem S256x1536 .bf16) (harg10 : arg10.IsWhole) (arg11 : Memref sig .tc .vmem S256x16384 .fp8e5m2) (harg11 : arg11.IsWhole) (arg12 : Memref sig .tc .vmem S256x128 .f32) (harg12 : arg12.IsWhole) (hc0 : cond0_0 i)
    (x0 : Vec F S256x16384 .bf16) (x1 : Vec F S1x512x16384 .fp8e4m3) (x2 : Vec F S1x1x512 .f32) (xt0 : TbBuf0 (F := F) c tbM0_0) (xt1 : TbBuf0 (F := F) c tbM0_1) (xt2 : TbBuf0 (F := F) c tbM0_2) (xt3 : TbBuf0 (F := F) c tbM0_3) (xt4 : TbBuf0 (F := F) c tbM0_4) (y3 : Vec F S256x1536 .bf16) :
    { L : List (View.Piece (Elt F) S256x1536 .bf16) × List (View.Piece (Elt F) S256x16384 .fp8e5m2) × List (View.Piece (Elt F) S256x128 .f32) //
      ∀ (E : Set ℕ) (K : PUnit → sProp (MT nD τ sig Unit (Elt F) ℕ (UR sig nD τ) ℕ)),
        iprop(owns (c : Thread nD τ) arg7 fullShare x0 ∗ owns (c : Thread nD τ) arg8 fullShare x1 ∗ owns (c : Thread nD τ) arg9 fullShare x2 ∗ owns (c : Thread nD τ) arg10 fullShare y3 ∗ (∃ d, owns (c : Thread nD τ) arg11 fullShare d) ∗ (∃ d, owns (c : Thread nD τ) arg12 fullShare d) ∗ tbPt0 c tbM0_0 xt0 ∗ tbPt0 c tbM0_1 xt1 ∗ tbPt0 c tbM0_2 xt2 ∗ tbPt0 c tbM0_3 xt3 ∗ tbPt0 c tbM0_4 xt4
            ∗ (iprop(owns (c : Thread nD τ) arg7 fullShare x0 ∗ owns (c : Thread nD τ) arg8 fullShare x1 ∗ owns (c : Thread nD τ) arg9 fullShare x2 ∗ (arg10.view.loc (c : Thread nD τ) ↦[arg10.view.set]{fullShare} arg10.view.writes (Elt F) (harg10.unread y3) L.1) ∗ (∃ f, arg11.view.loc (c : Thread nD τ) ↦[arg11.view.set]{fullShare} arg11.view.writes (Elt F) f L.2.1) ∗ (∃ f, arg12.view.loc (c : Thread nD τ) ↦[arg12.view.set]{fullShare} arg12.view.writes (Elt F) f L.2.2) ∗ tbPt0 c tbM0_0 xt0 ∗ tbPt0 c tbM0_1 xt1 ∗ tbPt0 c tbM0_2 xt2 ∗ tbPt0 c tbM0_3 xt3 ∗ tbPt0 c tbM0_4 xt4) -∗ K ⟨⟩))
          ⊢ wp frame (wpE (defs₀ (F := F)) Variants.none c none) E (cc0_dgrad i tbM0_0 htbM0_0 tbM0_1 htbM0_1 tbM0_2 htbM0_2 tbM0_3 htbM0_3 tbM0_4 htbM0_4 arg7 harg7 arg8 harg8 arg9 harg9 arg10 harg10 arg11 harg11 arg12 harg12) K } := by
  refine ⟨⟨?_, ?_, ?_⟩, fun E K => ?run⟩
  case run =>
    simp only [cc0_dgrad_eq_skeleton]; unfold cc0_dgrad_skel
    simp only [k0_part23_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton]
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, HT0, HT1, HT2, HT3, HT4, Hk⟩
    obtain rfl := harg7.eq_unread hf0; obtain rfl := harg8.eq_unread hf1; obtain rfl := harg9.eq_unread hf2; obtain rfl := harg10.eq_unread hf3
    sl_exec (disch := first | sl_exact hc0)
    sl_step
    iapply Hk
    isplitl [H0]
    · iexists _; isplitr; · ipureintro; exact harg7.read_unread _
      iexact H0
    isplitl [H1]
    · iexists _; isplitr; · ipureintro; exact harg8.read_unread _
      iexact H1
    isplitl [H2]
    · iexists _; isplitr; · ipureintro; exact harg9.read_unread _
      iexact H2
    isplitl [H3]; · iexact H3
    isplitl [HS0]
    · iexists _; iexact HS0
    isplitl [HS1]
    · iexists _; iexact HS1
    isplitl [HT0]; · iexact HT0
    isplitl [HT1]; · iexact HT1
    isplitl [HT2]; · iexact HT2
    isplitl [HT3]; · iexact HT3
    iexact HT4

end Cert.KernelIdeal.Run

end
-- ==== Proof.IValB.lean ====
/- The body where the column block is not the first: what it writes, given what it finds in the output tile and the scratch. -/
module

public import proofs.«01_k».proof.Proof.IValA

@[expose] public section

-- membership in a rectangle of production extents (`View.cover_of_tiled`): the elaborator's structural look
-- recurses once per coordinate of the long axes
set_option maxRecDepth 16384

noncomputable section

namespace Cert.KernelIdeal.Run

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

-- (the run's proof term is large: checking it walks past the default budget)
set_option maxHeartbeats 1000000 in
/-- What the body stores, as pieces (last first), with the proof that it runs: the column block of the output; the codes and the scales stay. -/
noncomputable def valueRunB (c : Dev nD) (i : grid0.Coords) (arg7 : Memref sig .tc .vmem S256x16384 .bf16) (harg7 : arg7.IsWhole) (arg8 : Memref sig .tc .vmem S1x512x16384 .fp8e4m3) (harg8 : arg8.IsWhole) (arg9 : Memref sig .tc .vmem S1x1x512 .f32) (harg9 : arg9.IsWhole) (arg10 : Memref sig .tc .vmem S256x1536 .bf16) (harg10 : arg10.IsWhole) (arg11 : Memref sig .tc .vmem S256x16384 .fp8e5m2) (harg11 : arg11.IsWhole) (arg12 : Memref sig .tc .vmem S256x128 .f32) (harg12 : arg12.IsWhole) (hc0 : ¬cond0_0 i)
    (x0 : Vec F S256x16384 .bf16) (x1 : Vec F S1x512x16384 .fp8e4m3) (x2 : Vec F S1x1x512 .f32) (xt0 : TbBuf0 (F := F) c tbM0_0) (xt1 : TbBuf0 (F := F) c tbM0_1) (xt2 : TbBuf0 (F := F) c tbM0_2) (xt3 : TbBuf0 (F := F) c tbM0_3) (xt4 : TbBuf0 (F := F) c tbM0_4) (y3 : Vec F S256x1536 .bf16) (z0 : Vec F S256x16384 .fp8e5m2) (z1 : Vec F S256x128 .f32) :
    { L : List (View.Piece (Elt F) S256x1536 .bf16) //
      ∀ (E : Set ℕ) (K : PUnit → sProp (MT nD τ sig Unit (Elt F) ℕ (UR sig nD τ) ℕ)),
        iprop(owns (c : Thread nD τ) arg7 fullShare x0 ∗ owns (c : Thread nD τ) arg8 fullShare x1 ∗ owns (c : Thread nD τ) arg9 fullShare x2 ∗ owns (c : Thread nD τ) arg10 fullShare y3 ∗ owns (c : Thread nD τ) arg11 fullShare z0 ∗ owns (c : Thread nD τ) arg12 fullShare z1 ∗ tbPt0 c tbM0_0 xt0 ∗ tbPt0 c tbM0_1 xt1 ∗ tbPt0 c tbM0_2 xt2 ∗ tbPt0 c tbM0_3 xt3 ∗ tbPt0 c tbM0_4 xt4
            ∗ (iprop(owns (c : Thread nD τ) arg7 fullShare x0 ∗ owns (c : Thread nD τ) arg8 fullShare x1 ∗ owns (c : Thread nD τ) arg9 fullShare x2 ∗ (arg10.view.loc (c : Thread nD τ) ↦[arg10.view.set]{fullShare} arg10.view.writes (Elt F) (harg10.unread y3) L) ∗ owns (c : Thread nD τ) arg11 fullShare z0 ∗ owns (c : Thread nD τ) arg12 fullShare z1 ∗ tbPt0 c tbM0_0 xt0 ∗ tbPt0 c tbM0_1 xt1 ∗ tbPt0 c tbM0_2 xt2 ∗ tbPt0 c tbM0_3 xt3 ∗ tbPt0 c tbM0_4 xt4) -∗ K ⟨⟩))
          ⊢ wp frame (wpE (defs₀ (F := F)) Variants.none c none) E (cc0_dgrad i tbM0_0 htbM0_0 tbM0_1 htbM0_1 tbM0_2 htbM0_2 tbM0_3 htbM0_3 tbM0_4 htbM0_4 arg7 harg7 arg8 harg8 arg9 harg9 arg10 harg10 arg11 harg11 arg12 harg12) K } := by
  refine ⟨?_, fun E K => ?run⟩
  case run =>
    simp only [cc0_dgrad_eq_skeleton]; unfold cc0_dgrad_skel
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, HT0, HT1, HT2, HT3, HT4, Hk⟩
    obtain rfl := harg7.eq_unread hf0; obtain rfl := harg8.eq_unread hf1; obtain rfl := harg9.eq_unread hf2; obtain rfl := harg10.eq_unread hf3; obtain rfl := harg11.eq_unread hfs0; obtain rfl := harg12.eq_unread hfs1
    sl_exec (disch := first | sl_exact hc0)
    sl_step
    iapply Hk
    isplitl [H0]
    · iexists _; isplitr; · ipureintro; exact harg7.read_unread _
      iexact H0
    isplitl [H1]
    · iexists _; isplitr; · ipureintro; exact harg8.read_unread _
      iexact H1
    isplitl [H2]
    · iexists _; isplitr; · ipureintro; exact harg9.read_unread _
      iexact H2
    isplitl [H3]; · iexact H3
    isplitl [HS0]
    · iexists _; isplitr; · ipureintro; exact harg11.read_unread _
      iexact HS0
    isplitl [HS1]
    · iexists _; isplitr; · ipureintro; exact harg12.read_unread _
      iexact HS1
    isplitl [HT0]; · iexact HT0
    isplitl [HT1]; · iexact HT1
    isplitl [HT2]; · iexact HT2
    isplitl [HT3]; · iexact HT3
    iexact HT4

end Cert.KernelIdeal.Run

end
-- ==== Proof.Row.lean ====
/- One row of the tile, at the exact values: the kernel's scale and codes are the textbook's. The kernel finds the
   exponent of the row's ratio by comparing it with powers of two written as float words; the textbook takes a
   logarithm. -/
module

public import Idealize.ShloMosaic.PureOps.Ideal.Laws
public import Idealize.ShloMosaic.Lib.IdealHost

@[expose] public section

noncomputable section

namespace Cert.Row

open Idealize.ShloMosaic

/-! ## What the kernel computes for a row -/

/-- The greatest magnitude of a row. -/
def amax (v : Fin 16384 → EReal) : EReal :=
  Finset.univ.fold max (Ideal.ofBits .f32 0xFF800000#32) fun k => max (v k) (-(v k))

/-- The greatest magnitude over the greatest code. -/
def ratio (v : Fin 16384 → EReal) : EReal := amax v * Ideal.ofBits .f32 0x37924925#32

/-- One step of the search: take the bit `b` unless `x` is below the power of two with that exponent field. -/
def step (x : EReal) (f b : BitVec 32) : BitVec 32 :=
  Scalar.select (Ideal.cmp .olt x (Ideal.ofBits .f32 (IntOp.shli .vector (IntOp.addi f b) 23#32))) f (IntOp.addi f b)

/-- The exponent field of `x`, its eight bits found from the top. -/
def field (x : EReal) : BitVec 32 :=
  step x (step x (step x (step x (step x (step x (step x (step x 0#32 128#32) 64#32) 32#32) 16#32) 8#32) 4#32) 2#32) 1#32

/-- The kernel's exponent: zero for zero. -/
def expo (x : EReal) : BitVec 32 :=
  Scalar.select (Ideal.cmp .oeq x (Ideal.ofBits .f32 0x00000000#32)) 0#32 (IntOp.subi (field x) 126#32)

/-- The power of two with the exponent `e`, kept in the normal range, as the float word that holds it. -/
def pow2 (e : BitVec 32) : EReal :=
  Ideal.ofBits .f32 (IntOp.shli .vector (IntOp.addi (IntOp.minsi 127#32 (IntOp.maxsi 4294967170#32 e)) 127#32) 23#32)

/-- The row's scale. -/
def scale (v : Fin 16384 → EReal) : EReal := pow2 (expo (ratio v))

/-- The factor that brings the row into the codes' range. -/
def inv (v : Fin 16384 → EReal) : EReal := pow2 (IntOp.subi 0#32 (expo (ratio v)))

/-- The row's codes. -/
def code (v : Fin 16384 → EReal) (k : Fin 16384) : EReal :=
  min (Ideal.ofBits .f32 0x47600000#32) (max (Ideal.ofBits .f32 0xC7600000#32) (v k * inv v))

/-! ## What the textbook says -/

/-- The exponent by the logarithm to base two. -/
def rexpo (v : Fin 16384 → EReal) : EReal :=
  Scalar.select (Ideal.cmp .oeq (amax v) (Ideal.ofBits .f32 0x00000000#32)) (Ideal.ofBits .f32 0x00000000#32)
    (max (Ideal.liftRound Int.floor (Ideal.div (Ideal.log (ratio v)) (Ideal.log (Ideal.ofBits .f32 0x40000000#32)))
      + Ideal.ofBits .f32 0x3F800000#32) (Ideal.ofBits .f32 0xC2FC0000#32))

/-- The textbook's scale. -/
def rscale (v : Fin 16384 → EReal) : EReal := Ideal.exp2 (min (rexpo v) (Ideal.ofBits .f32 0x42FE0000#32))

/-- The textbook's factor into the codes' range. -/
def rinv (v : Fin 16384 → EReal) : EReal :=
  Ideal.exp2 (max (Ideal.ofBits .f32 0x00000000#32 - rexpo v) (Ideal.ofBits .f32 0xC2FC0000#32))

/-- The textbook's codes. -/
def rcode (v : Fin 16384 → EReal) (k : Fin 16384) : EReal :=
  min (Ideal.ofBits .f32 0x47600000#32) (max (Ideal.ofBits .f32 0xC7600000#32) (v k * rinv v))

/-! ## Float words that are powers of two -/

/-- The value of the word whose exponent field is `E` and whose other bits are zero. -/
def thr (E : ℕ) : EReal := if E = 0 then 0 else if E = 255 then ⊤ else (((2 : ℝ) ^ ((E : ℤ) - 127) : ℝ) : EReal)

/-- The bits of such a word, field by field. -/
theorem word_fields : ∀ E : Fin 256,
    (((IntOp.shli .vector (BitVec.ofNat 32 E.val) 23#32).extractLsb' 31 1 == 1#1) = false)
      ∧ ((IntOp.shli .vector (BitVec.ofNat 32 E.val) 23#32).extractLsb' 23 8).toNat = E.val
      ∧ ((IntOp.shli .vector (BitVec.ofNat 32 E.val) 23#32).extractLsb' 0 23).toNat = 0 := by
  decide +kernel

/-- The value of a word with the exponent field `E` and no other bit. -/
theorem ieee_field (w : BitVec 32) (E : ℕ) (h1 : (w.extractLsb' 31 1 == 1#1) = false) (h2 : (w.extractLsb' 23 8).toNat = E)
    (h3 : (w.extractLsb' 0 23).toNat = 0) : Ideal.ieee 8 23 w = thr E := by
  unfold Ideal.ieee thr
  rw [show 8 + 23 = 31 from rfl, h1, h2, h3]
  have e255 : 2 ^ 8 - 1 = 255 := by norm_num
  rw [e255]
  by_cases h0 : E = 0
  · subst h0; simp
  by_cases h5 : E = 255
  · subst h5; simp
  · simp only [if_neg h5, if_neg h0, Bool.false_eq_true, if_false]
    congr 1
    have hp : (2 : ℝ) ^ ((E : ℤ) - 127) = 2 ^ (23 : ℤ) * (2 : ℝ) ^ ((E : ℤ) - (2 ^ (8 - 1) - 1) - (23 : ℕ)) := by
      rw [← zpow_add₀ (by norm_num)]
      congr 1; norm_num
    rw [hp]; norm_num

/-- The value of the word whose exponent field is `E`. -/
theorem ofBits_field (E : ℕ) (h : E < 256) :
    Ideal.ofBits .f32 (IntOp.shli .vector (BitVec.ofNat 32 E) 23#32) = thr E := by
  obtain ⟨h1, h2, h3⟩ := word_fields ⟨E, h⟩
  exact ieee_field _ E h1 h2 h3

/-- The larger field is the larger power of two. -/
theorem thr_mono {a b : ℕ} (h : a ≤ b) (hb : b < 256) : thr a ≤ thr b := by
  unfold thr
  by_cases ha0 : a = 0
  · rw [if_pos ha0]
    split_ifs
    · exact le_refl _
    · exact le_top
    · exact_mod_cast (zpow_pos (by norm_num : (0 : ℝ) < 2) _).le
  rw [if_neg ha0, if_neg (show ¬ b = 0 by omega)]
  by_cases hb5 : b = 255
  · rw [if_pos hb5]; exact le_top
  rw [if_neg hb5, if_neg (show ¬ a = 255 by omega)]
  have : (2 : ℝ) ^ ((a : ℤ) - 127) ≤ (2 : ℝ) ^ ((b : ℤ) - 127) := zpow_le_zpow_right₀ (by norm_num) (by omega)
  exact_mod_cast this

/-! ## The search finds the exponent field -/

/-- One step of the search, in naturals. -/
theorem step_eq (x : EReal) (f b : ℕ) (h : f + b < 256) :
    step x (BitVec.ofNat 32 f) (BitVec.ofNat 32 b) = BitVec.ofNat 32 (if thr (f + b) ≤ x then f + b else f) := by
  have ha : IntOp.addi (BitVec.ofNat 32 f) (BitVec.ofNat 32 b) = BitVec.ofNat 32 (f + b) := by
    show BitVec.ofNat 32 f + BitVec.ofNat 32 b = _
    rw [← BitVec.ofNat_add]
  unfold step
  rw [ha, ofBits_field _ h]
  unfold Ideal.cmp Scalar.select
  by_cases hx : thr (f + b) ≤ x
  · simp [hx, not_lt.mpr hx]
  · simp [hx, not_le.mp hx]

/-- What a stage of the search has found: a field `f` whose power is at most `x`, where no field from `f + w` up is. -/
def Found (x : EReal) (w f : ℕ) : Prop := f + w ≤ 256 ∧ thr f ≤ x ∧ ∀ E, E < 256 → thr E ≤ x → E < f + w

/-- A step halves the range left. -/
theorem Found.step {x : EReal} {b f : ℕ} (hb : 0 < b) (h : Found x (2 * b) f) :
    ∃ f', Row.step x (BitVec.ofNat 32 f) (BitVec.ofNat 32 b) = BitVec.ofNat 32 f' ∧ Found x b f' := by
  obtain ⟨h1, h2, h3⟩ := h
  refine ⟨_, step_eq x f b (by omega), ?_⟩
  by_cases hx : thr (f + b) ≤ x
  · rw [if_pos hx]
    exact ⟨by omega, hx, fun E hE hEx => by have := h3 E hE hEx; omega⟩
  · rw [if_neg hx]
    refine ⟨by omega, h2, fun E hE hEx => ?_⟩
    by_contra hc
    exact hx ((thr_mono (by omega) hE).trans hEx)

/-- The field the kernel finds for `x ≥ 0`: its power is at most `x`, and no larger field's is. -/
theorem field_spec (x : EReal) (hx : 0 ≤ x) :
    ∃ f, field x = BitVec.ofNat 32 f ∧ f < 256 ∧ thr f ≤ x ∧ ∀ E, E < 256 → thr E ≤ x → E ≤ f := by
  have h0 : Found x (2 * 128) 0 := ⟨by norm_num, by simpa [thr] using hx, fun E hE _ => by omega⟩
  obtain ⟨f1, e1, h1⟩ := h0.step (by norm_num)
  obtain ⟨f2, e2, h2⟩ := Found.step (b := 64) (by norm_num) h1
  obtain ⟨f3, e3, h3⟩ := Found.step (b := 32) (by norm_num) h2
  obtain ⟨f4, e4, h4⟩ := Found.step (b := 16) (by norm_num) h3
  obtain ⟨f5, e5, h5⟩ := Found.step (b := 8) (by norm_num) h4
  obtain ⟨f6, e6, h6⟩ := Found.step (b := 4) (by norm_num) h5
  obtain ⟨f7, e7, h7⟩ := Found.step (b := 2) (by norm_num) h6
  obtain ⟨f8, e8, h8⟩ := Found.step (b := 1) (by norm_num) h7
  refine ⟨f8, ?_, by have := h8.1; omega, h8.2.1, fun E hE hEx => by have := h8.2.2 E hE hEx; omega⟩
  unfold field
  rw [e1, e2, e3, e4, e5, e6, e7, e8]

/-! ## The words of the scale -/

/-- The field of the scale's word, for each exponent field of the ratio. -/
theorem scale_word : ∀ f : Fin 256,
    IntOp.addi (IntOp.minsi 127#32 (IntOp.maxsi 4294967170#32 (IntOp.subi (BitVec.ofNat 32 f.val) 126#32))) 127#32
      = BitVec.ofNat 32 (min 254 (f.val + 1)) := by
  decide +kernel

/-- The field of the inverse's word, for each exponent field of the ratio. -/
theorem inv_word : ∀ f : Fin 256,
    IntOp.addi (IntOp.minsi 127#32 (IntOp.maxsi 4294967170#32 (IntOp.subi 0#32 (IntOp.subi (BitVec.ofNat 32 f.val) 126#32)))) 127#32
      = BitVec.ofNat 32 (max 1 (253 - f.val)) := by
  decide +kernel

/-- The scale's power of two. -/
theorem pow2_scale (f : ℕ) (h : f < 256) :
    pow2 (IntOp.subi (BitVec.ofNat 32 f) 126#32) = (((2 : ℝ) ^ min ((f : ℤ) - 126) 127 : ℝ) : EReal) := by
  unfold pow2
  rw [scale_word ⟨f, h⟩, ofBits_field _ (by simp only; omega), thr, if_neg (by simp only; omega), if_neg (by simp only; omega)]
  congr 2; simp only; omega

/-- The inverse's power of two. -/
theorem pow2_inv (f : ℕ) (h : f < 256) :
    pow2 (IntOp.subi 0#32 (IntOp.subi (BitVec.ofNat 32 f) 126#32)) = (((2 : ℝ) ^ max (126 - (f : ℤ)) (-126) : ℝ) : EReal) := by
  unfold pow2
  rw [inv_word ⟨f, h⟩, ofBits_field _ (by simp only; omega), thr, if_neg (by simp only; omega), if_neg (by simp only; omega)]
  congr 2; simp only; omega

end Cert.Row

end
-- ==== Proof.IQuant.lean ====
/- A chunk of rows of the tile: the scale and the codes the kernel computes, as vectors, and read at one element. -/
module

public import proofs.«01_k».proof.Proof.Gen.KernelIdeal.Skeleton
public import proofs.«01_k».proof.Proof.Row
public import Idealize.ShloMosaic.Lib.Pointwise

@[expose] public section

set_option maxRecDepth 16384

noncomputable section

namespace Cert.KernelIdeal.Run

open Cert.KernelIdeal.Gen
open Idealize.ShloMosaic

variable {F : FTy → Type} [FloatOps F]

/-- One step of the search for the exponent field, on a column of ratios. -/
def stepV (x : FVec F S32x1 .f32) (f : IVec S32x1 32) (b : BitVec 32) : IVec S32x1 32 :=
  select (cmpf .olt x (bitcastToFloat .f32 (shli (addi f (broadcast S32x1 b)) (broadcast S32x1 23#32))))
    f (addi f (broadcast S32x1 b))

/-- The exponents of a column of ratios. -/
def expoV (x : FVec F S32x1 .f32) : IVec S32x1 32 :=
  select (cmpf .oeq x (broadcast S32x1 (Scalar.ofBits .f32 0x00000000#32))) (broadcast S32x1 0#32)
    (subi (stepV x (stepV x (stepV x (stepV x (stepV x (stepV x (stepV x (stepV x (broadcast S32x1 0#32)
      128#32) 64#32) 32#32) 16#32) 8#32) 4#32) 2#32) 1#32) (broadcast S32x1 126#32))

/-- The powers of two of a column of exponents. -/
def powV (e : IVec S32x1 32) : FVec F S32x1 .f32 :=
  bitcastToFloat .f32 (shli (addi (minsi (broadcast S32x1 127#32) (maxsi (broadcast S32x1 4294967170#32) e))
    (broadcast S32x1 127#32)) (broadcast S32x1 23#32))

/-- The chunk's scales, one row of equal words each. -/
def scaleV (v : Vec F S32x16384 .bf16) : FVec F S32x128 .f32 :=
  shapeCast S32x128 (broadcastTo S32x128 (shapeCast S32x1 (powV (F := F) (expoV (k0_pay4 v))) shapeCasts_S32x1_S32x1)
    broadcasts_S32x1_S32x128) shapeCasts_S32x128_S32x128

/-- The chunk's codes. -/
def codeV (v : Vec F S32x16384 .bf16) : FVec F S32x16384 .fp8e5m2 :=
  shapeCast S32x16384 (truncf .fp8e5m2 (minimumf (broadcast S32x16384 (Scalar.ofBits .f32 0x47600000#32))
    (maximumf (broadcast S32x16384 (Scalar.ofBits .f32 0xC7600000#32))
      (mulf (k0_pay3 v) (broadcastTo S32x16384 (powV (F := F) (subi (broadcast S32x1 0#32) (expoV (k0_pay4 v))))
        broadcasts_S32x1_S32x16384)))) bitsLt_fp8e5m2_f32) shapeCasts_S32x16384_S32x16384

/-! ## At the exact values, element by element -/

/-- The ratio of a chunk's row. -/
theorem ratio_at (v : Vec Ideal S32x16384 .bf16) (r : Fin 32) :
    k0_pay4 (F := Ideal) v (ix2 r (0 : Fin 1)) = Row.ratio fun k => v (ix2 r k) := by
  unfold k0_pay4 k0_pay3
  pointwise
  rfl

/-- A step of the search, row by row. -/
theorem stepV_apply (x : FVec Ideal S32x1 .f32) (f : IVec S32x1 32) (b : BitVec 32) (j : S32x1.Idx) :
    stepV x f b j = Row.step (x j) (f j) b := rfl

/-- The exponents, from the fields found. -/
theorem expoV_last (x : FVec Ideal S32x1 .f32) (f : IVec S32x1 32) (j : S32x1.Idx) :
    (select (cmpf .oeq x (broadcast S32x1 (Scalar.ofBits .f32 0x00000000#32))) (broadcast S32x1 0#32)
      (subi f (broadcast S32x1 126#32)) : IVec S32x1 32) j
      = Scalar.select (Ideal.cmp .oeq (x j) (Ideal.ofBits .f32 0x00000000#32)) 0#32 (IntOp.subi (f j) 126#32) := rfl

/-- The exponents, row by row. -/
theorem expoV_apply (x : FVec Ideal S32x1 .f32) (j : S32x1.Idx) : expoV x j = Row.expo (x j) := by
  have h0 : (broadcast S32x1 0#32 : IVec S32x1 32) j = 0#32 := rfl
  unfold expoV Row.expo Row.field
  rw [expoV_last]
  simp only [stepV_apply, h0]

/-- The powers of two, row by row. -/
theorem powV_apply (e : IVec S32x1 32) (j : S32x1.Idx) : powV (F := Ideal) e j = Row.pow2 (e j) := rfl

/-- The exponent of a chunk's row. -/
theorem expo_at (v : Vec Ideal S32x16384 .bf16) (r : Fin 32) :
    expoV (k0_pay4 v) (ix2 r 0) = Row.expo (Row.ratio fun k => v (ix2 r k)) := by
  rw [expoV_apply, ratio_at]

/-- The scale of a chunk's row. -/
theorem scale_at (v : Vec Ideal S32x16384 .bf16) (r : Fin 32) (l : Fin 128) :
    scaleV v (ix2 r l) = Row.scale fun k => v (ix2 r k) := by
  have h : scaleV v (ix2 r l) = powV (F := Ideal) (expoV (k0_pay4 v)) (ix2 r 0) := by
    unfold scaleV
    generalize powV (F := Ideal) (expoV (k0_pay4 v)) = p
    pointwise
  rw [h, powV_apply, expo_at, Row.scale]

/-- A code of a chunk's row. -/
theorem code_at (v : Vec Ideal S32x16384 .bf16) (r : Fin 32) (l : Fin 16384) :
    codeV v (ix2 r l) = Row.code (fun k => v (ix2 r k)) l := by
  have h : codeV v (ix2 r l) = min (Ideal.ofBits .f32 0x47600000#32) (max (Ideal.ofBits .f32 0xC7600000#32)
      (v (ix2 r l) * powV (F := Ideal) (subi (broadcast S32x1 0#32) (expoV (k0_pay4 v))) (ix2 r 0))) := by
    unfold codeV k0_pay3
    generalize powV (F := Ideal) (subi (broadcast S32x1 0#32) (expoV (k0_pay4 v))) = p
    pointwise
  have h' : ∀ e : IVec S32x1 32, subi (broadcast S32x1 0#32) e (ix2 r 0) = IntOp.subi 0#32 (e (ix2 r 0)) := fun _ => rfl
  rw [h, powV_apply, h', expo_at, Row.code, Row.inv]

end Cert.KernelIdeal.Run

end
-- ==== Proof.IPieces.lean ====
/- What the first column block's point leaves in the scratch: each row chunk's codes and scales are those of its rows. -/
module

public import proofs.«01_k».proof.Proof.IValB
public import proofs.«01_k».proof.Proof.IQuant
public import Idealize.ShloMosaic.Lib.Pipeline.ReadBack
public import Idealize.ShloMosaic.Lib.WholeRead

@[expose] public section

set_option maxRecDepth 16384

noncomputable section

namespace Cert.KernelIdeal.Run

open Cert.KernelIdeal.Gen
open Idealize.ShloMosaic Idealize.ShloMosaic.TcCoe

/-- The codes of a tile: row by row. -/
def codesT (x0 : Vec Ideal S256x16384 .bf16) : Vec Ideal S256x16384 .fp8e5m2 := fun j => Row.code (fun k => x0 (ix2 (j 0) k)) (j 1)

/-- The scales of a tile: row by row, the same in every lane. -/
def scalesT (x0 : Vec Ideal S256x16384 .bf16) : Vec Ideal S256x128 .f32 := fun j => Row.scale fun k => x0 (ix2 (j 0) k)

/-- A row of a loaded chunk is a row of the tile. -/
theorem chunk_row (arg7 : Memref sig .tc .vmem S256x16384 .bf16) (harg7 : arg7.IsWhole) (x0 : Vec Ideal S256x16384 .bf16)
    (o : ℕ) (inb : ∀ a, (![o, 0] : Fin 2 → ℕ) a + S32x16384.size a ≤ S256x16384.size a) (r : Fin 32) (R : Fin 256)
    (hR : R.val = o + r.val) (k : Fin 16384) :
    View.readAt (Elt Ideal) arg7.view (Rect.unit (s := S256x16384) ![o, 0] S32x16384.size inb).toLoadRect (harg7.unread x0) (ix2 r k)
      = x0 (ix2 R k) := by
  rw [Memref.IsWhole.readAt_unread]
  refine congrArg x0 (funext fun a => Fin.ext ?_)
  match a with
  | ⟨0, _⟩ => show o + 1 * r.val = R.val; omega
  | ⟨1, _⟩ => show 0 + 1 * k.val = k.val; omega

/-- A chunk's codes are the tile's at the chunk's rows. -/
theorem code_piece (arg7 : Memref sig .tc .vmem S256x16384 .bf16) (harg7 : arg7.IsWhole) (x0 : Vec Ideal S256x16384 .bf16)
    (o : ℕ) (inb : ∀ a, (![o, 0] : Fin 2 → ℕ) a + S32x16384.size a ≤ S256x16384.size a) (x : S32x16384.Idx) :
    codeV (F := Ideal) (View.readAt (Elt Ideal) arg7.view (Rect.unit (s := S256x16384) ![o, 0] S32x16384.size inb).toLoadRect (harg7.unread x0)) x
      = codesT x0 ((Rect.unit (s := S256x16384) ![o, 0] S32x16384.size inb).emb x) := by
  obtain ⟨r, l, rfl⟩ : ∃ (r : Fin 32) (l : Fin 16384), x = ix2 r l := ⟨x 0, x 1, eq_ix2 x⟩
  rw [code_at]
  unfold codesT
  have h1 : (Rect.unit (s := S256x16384) ![o, 0] S32x16384.size inb).emb (ix2 r l) 1 = l :=
    Fin.ext (by show 0 + 1 * l.val = l.val; omega)
  rw [h1]
  refine congrArg (fun v => Row.code v l) (funext fun k => chunk_row arg7 harg7 x0 o inb r _ ?_ k)
  show o + 1 * r.val = _; omega

/-- A chunk's scales are the tile's at the chunk's rows. -/
theorem scale_piece (arg7 : Memref sig .tc .vmem S256x16384 .bf16) (harg7 : arg7.IsWhole) (x0 : Vec Ideal S256x16384 .bf16)
    (o : ℕ) (inb : ∀ a, (![o, 0] : Fin 2 → ℕ) a + S32x16384.size a ≤ S256x16384.size a)
    (inb' : ∀ a, (![o, 0] : Fin 2 → ℕ) a + S32x128.size a ≤ S256x128.size a) (x : S32x128.Idx) :
    scaleV (F := Ideal) (View.readAt (Elt Ideal) arg7.view (Rect.unit (s := S256x16384) ![o, 0] S32x16384.size inb).toLoadRect (harg7.unread x0)) x
      = scalesT x0 ((Rect.unit (s := S256x128) ![o, 0] S32x128.size inb').emb x) := by
  obtain ⟨r, l, rfl⟩ : ∃ (r : Fin 32) (l : Fin 128), x = ix2 r l := ⟨x 0, x 1, eq_ix2 x⟩
  rw [scale_at]
  unfold scalesT
  refine congrArg Row.scale (funext fun k => chunk_row arg7 harg7 x0 o inb r _ ?_ k)
  show o + 1 * r.val = _; omega

variable (c : Dev nD) (i : grid0.Coords) (arg7 : Memref sig .tc .vmem S256x16384 .bf16) (harg7 : arg7.IsWhole) (arg8 : Memref sig .tc .vmem S1x512x16384 .fp8e4m3) (harg8 : arg8.IsWhole) (arg9 : Memref sig .tc .vmem S1x1x512 .f32) (harg9 : arg9.IsWhole) (arg10 : Memref sig .tc .vmem S256x1536 .bf16) (harg10 : arg10.IsWhole) (arg11 : Memref sig .tc .vmem S256x16384 .fp8e5m2) (harg11 : arg11.IsWhole) (arg12 : Memref sig .tc .vmem S256x128 .f32) (harg12 : arg12.IsWhole) (hc0 : cond0_0 i)
    (x0 : Vec Ideal S256x16384 .bf16) (x1 : Vec Ideal S1x512x16384 .fp8e4m3) (x2 : Vec Ideal S1x1x512 .f32) (xt0 : TbBuf0 (F := Ideal) c tbM0_0) (xt1 : TbBuf0 (F := Ideal) c tbM0_1) (xt2 : TbBuf0 (F := Ideal) c tbM0_2) (xt3 : TbBuf0 (F := Ideal) c tbM0_3) (xt4 : TbBuf0 (F := Ideal) c tbM0_4) (y3 : Vec Ideal S256x1536 .bf16)

set_option maxHeartbeats 1000000 in
/-- Every chunk of codes stored is the tile's. -/
theorem codes_piecesOf : View.PiecesOf (codesT x0) (valueRunA c i arg7 harg7 arg8 harg8 arg9 harg9 arg10 harg10 arg11 harg11 arg12 harg12 hc0 x0 x1 x2 xt0 xt1 xt2 xt3 xt4 y3).1.2.1 := by
  unfold valueRunA
  dsimp only
  unfold valueRunA.sl.HS0_8
  refine ⟨fun x => ?_, fun x => ?_, fun x => ?_, fun x => ?_, fun x => ?_, fun x => ?_, fun x => ?_, fun x => ?_, trivial⟩
  · exact code_piece arg7 harg7 x0 224 _ x
  · exact code_piece arg7 harg7 x0 192 _ x
  · exact code_piece arg7 harg7 x0 160 _ x
  · exact code_piece arg7 harg7 x0 128 _ x
  · exact code_piece arg7 harg7 x0 96 _ x
  · exact code_piece arg7 harg7 x0 64 _ x
  · exact code_piece arg7 harg7 x0 32 _ x
  · exact code_piece arg7 harg7 x0 0 _ x

set_option maxHeartbeats 1000000 in
/-- Every chunk of scales stored is the tile's. -/
theorem scales_piecesOf : View.PiecesOf (scalesT x0) (valueRunA c i arg7 harg7 arg8 harg8 arg9 harg9 arg10 harg10 arg11 harg11 arg12 harg12 hc0 x0 x1 x2 xt0 xt1 xt2 xt3 xt4 y3).1.2.2 := by
  unfold valueRunA
  dsimp only
  unfold valueRunA.sl.HS1_8
  refine ⟨fun x => ?_, fun x => ?_, fun x => ?_, fun x => ?_, fun x => ?_, fun x => ?_, fun x => ?_, fun x => ?_, trivial⟩
  · exact scale_piece arg7 harg7 x0 224 inb_S256x16384_S32x16384_224_0 inb_S256x128_S32x128_224_0 x
  · exact scale_piece arg7 harg7 x0 192 inb_S256x16384_S32x16384_192_0 inb_S256x128_S32x128_192_0 x
  · exact scale_piece arg7 harg7 x0 160 inb_S256x16384_S32x16384_160_0 inb_S256x128_S32x128_160_0 x
  · exact scale_piece arg7 harg7 x0 128 inb_S256x16384_S32x16384_128_0 inb_S256x128_S32x128_128_0 x
  · exact scale_piece arg7 harg7 x0 96 inb_S256x16384_S32x16384_96_0 inb_S256x128_S32x128_96_0 x
  · exact scale_piece arg7 harg7 x0 64 inb_S256x16384_S32x16384_64_0 inb_S256x128_S32x128_64_0 x
  · exact scale_piece arg7 harg7 x0 32 inb_S256x16384_S32x16384_32_0 inb_S256x128_S32x128_32_0 x
  · exact scale_piece arg7 harg7 x0 0 inb_S256x16384_S32x16384_0_0 inb_S256x128_S32x128_0_0 x

/-- The chunks of codes fill the tile. -/
theorem codes_cover (y : S256x16384.Idx) : ∃ p ∈ (valueRunA c i arg7 harg7 arg8 harg8 arg9 harg9 arg10 harg10 arg11 harg11 arg12 harg12 hc0 x0 x1 x2 xt0 xt1 xt2 xt3 xt4 y3).1.2.1, y ∈ p.1.set := by
  unfold valueRunA
  exact View.cover_of_tiledL (s := S256x16384) _ S32x16384.size (by sl_kernel_rfl) y

/-- The chunks of scales fill the tile. -/
theorem scales_cover (y : S256x128.Idx) : ∃ p ∈ (valueRunA c i arg7 harg7 arg8 harg8 arg9 harg9 arg10 harg10 arg11 harg11 arg12 harg12 hc0 x0 x1 x2 xt0 xt1 xt2 xt3 xt4 y3).1.2.2, y ∈ p.1.set := by
  unfold valueRunA
  exact View.cover_of_tiledL (s := S256x128) _ S32x128.size (by sl_kernel_rfl) y

/-- What the codes' buffer reads after the point, whatever it held. -/
theorem codes_canon : View.canon (valueRunA c i arg7 harg7 arg8 harg8 arg9 harg9 arg10 harg10 arg11 harg11 arg12 harg12 hc0 x0 x1 x2 xt0 xt1 xt2 xt3 xt4 y3).1.2.1 = codesT x0 := by
  funext y
  have := View.canon_append_of_piecesOf (codesT x0) [] _ (codes_piecesOf c i arg7 harg7 arg8 harg8 arg9 harg9 arg10 harg10 arg11 harg11 arg12 harg12 hc0 x0 x1 x2 xt0 xt1 xt2 xt3 xt4 y3) y (codes_cover c i arg7 harg7 arg8 harg8 arg9 harg9 arg10 harg10 arg11 harg11 arg12 harg12 hc0 x0 x1 x2 xt0 xt1 xt2 xt3 xt4 y3 y)
  rwa [List.append_nil] at this

/-- What the scales' buffer reads after the point, whatever it held. -/
theorem scales_canon : View.canon (valueRunA c i arg7 harg7 arg8 harg8 arg9 harg9 arg10 harg10 arg11 harg11 arg12 harg12 hc0 x0 x1 x2 xt0 xt1 xt2 xt3 xt4 y3).1.2.2 = scalesT x0 := by
  funext y
  have := View.canon_append_of_piecesOf (scalesT x0) [] _ (scales_piecesOf c i arg7 harg7 arg8 harg8 arg9 harg9 arg10 harg10 arg11 harg11 arg12 harg12 hc0 x0 x1 x2 xt0 xt1 xt2 xt3 xt4 y3) y (scales_cover c i arg7 harg7 arg8 harg8 arg9 harg9 arg10 harg10 arg11 harg11 arg12 harg12 hc0 x0 x1 x2 xt0 xt1 xt2 xt3 xt4 y3 y)
  rwa [List.append_nil] at this

end Cert.KernelIdeal.Run

end
-- ==== Proof.IOut.lean ====
/- The output tile after one grid point, element by element. -/
module

public import proofs.«01_k».proof.Proof.IPieces
public import proofs.«01_k».proof.Proof.ITables
public import Idealize.ShloMosaic.Lib.Pointwise.IndexBridge
public import Idealize.ShloMosaic.Lib.WritesUnit
public import Idealize.ShloMosaic.Lib.WordCmp

@[expose] public section

set_option maxRecDepth 16384

noncomputable section

namespace Cert.KernelIdeal.Run

open Cert.KernelIdeal.Gen
open Idealize.ShloMosaic Idealize.ShloMosaic.TcCoe

/-- Whether row `r` of row tile `w1` lies among the rows from `w2` up to `w3`, in the kernel's words. -/
def inRows (w1 w2 w3 : BitVec 32) (r : ℕ) : BitVec 1 :=
  Scalar.andi (Scalar.cmpi .sge (Scalar.addi (Scalar.muli w1 256#32) (BitVec.ofNat 32 r)) w2) (Scalar.cmpi .slt (Scalar.addi (Scalar.muli w1 256#32) (BitVec.ofNat 32 r)) w3)

/-- One element of the column block that a grid point stores. -/
theorem pay2_at (v3 : Vec Ideal S256x16384 .fp8e5m2) (v4 : Vec Ideal S1x512x16384 .fp8e4m3) (w1 w2 w3 : BitVec 32) (v22 : Vec Ideal S256x1 .f32)
    (v25 : Vec Ideal S1x1x512 .f32) (v33 : Vec Ideal S256x512 .bf16) (r : Fin 256) (l : Fin 512) :
    k0_pay2 (F := Ideal) v3 v4 w1 w2 w3 v22 v25 v33 (ix2 r l)
      = Scalar.select (inRows w1 w2 w3 r.val)
          ((∑ k : Fin 16384, v3 (ix2 r k) * v4 (ix3 (0 : Fin 1) l k)) * v22 (ix2 r (0 : Fin 1)) * v25 (ix3 (0 : Fin 1) (0 : Fin 1) l)) (v33 (ix2 r l)) := by
  unfold k0_pay2 inRows
  pointwise
  rfl

/-- The mask's word as a comparison of row numbers. -/
theorem inRows_iff (mt lo hi r : ℕ) (hmt : mt < 32) (hlo : lo ≤ 8192) (hhi : hi ≤ 8192) (hr : r < 256) :
    inRows (BitVec.ofNat 32 mt) (BitVec.ofNat 32 lo) (BitVec.ofNat 32 hi) r = 1#1 ↔ lo ≤ mt * 256 + r ∧ mt * 256 + r < hi := by
  have e : Scalar.addi (Scalar.muli (BitVec.ofNat 32 mt) 256#32) (BitVec.ofNat 32 r) = BitVec.ofNat 32 (mt * 256 + r) := by
    show BitVec.ofNat 32 mt * 256#32 + BitVec.ofNat 32 r = _
    rw [BitVec.ofNat_add, BitVec.ofNat_mul]
  unfold inRows
  rw [e]
  refine Iff.trans IntOp.andi_eq_one (and_congr ?_ ?_)
  · exact WordCmp.cmpi_sge_ofNat_eq_one_iff (w := 32) (by omega) (by omega)
  · exact WordCmp.cmpi_slt_ofNat_eq_one_iff (w := 32) (by omega) (by omega)

/-- One element of the tile after a point whose masked block is stored over `y3`: inside the point's columns and rows
    the scaled product, elsewhere what was there. -/
def outE (i : grid0.Coords) (w1 w2 w3 : BitVec 32) (z0 : Vec Ideal S256x16384 .fp8e5m2) (x1 : Vec Ideal S1x512x16384 .fp8e4m3)
    (z1 : Vec Ideal S256x128 .f32) (x2 : Vec Ideal S1x1x512 .f32) (y3 : Vec Ideal S256x1536 .bf16) (r : Fin 256) (l : Fin 1536) : EReal :=
  if h : 512 * (i 1).val ≤ l.val ∧ l.val < 512 * (i 1).val + 512 then
    Scalar.select (inRows w1 w2 w3 r.val)
      ((∑ k : Fin 16384, z0 (ix2 r k) * x1 (ix3 (0 : Fin 1) (⟨l.val - 512 * (i 1).val, by omega⟩ : Fin 512) k))
        * z1 (ix2 r (0 : Fin 128)) * x2 (ix3 (0 : Fin 1) (0 : Fin 1) (⟨l.val - 512 * (i 1).val, by omega⟩ : Fin 512))) (y3 (ix2 r l))
  else y3 (ix2 r l)

/-- The tile after a point. -/
def outT (i : grid0.Coords) (w1 w2 w3 : BitVec 32) (z0 : Vec Ideal S256x16384 .fp8e5m2) (x1 : Vec Ideal S1x512x16384 .fp8e4m3)
    (z1 : Vec Ideal S256x128 .f32) (x2 : Vec Ideal S1x1x512 .f32) (y3 : Vec Ideal S256x1536 .bf16) : Vec Ideal S256x1536 .bf16 := fun j =>
  outE i w1 w2 w3 z0 x1 z1 x2 y3 (j 0) (j 1)

/-- Reading back the tile after the store of the block. -/
theorem out_read (arg10 : Memref sig .tc .vmem S256x1536 .bf16) (harg10 : arg10.IsWhole) (i : grid0.Coords) (w1 w2 w3 : BitVec 32)
    (z0 : Vec Ideal S256x16384 .fp8e5m2) (x1 : Vec Ideal S1x512x16384 .fp8e4m3)
    (z1 : Vec Ideal S256x128 .f32) (x2 : Vec Ideal S1x1x512 .f32) (y3 : Vec Ideal S256x1536 .bf16)
    (u0 : Vec Ideal S256x16384 .fp8e5m2) (u1 : Vec Ideal S1x512x16384 .fp8e4m3) (u22 : Vec Ideal S256x1 .f32) (u25 : Vec Ideal S1x1x512 .f32)
    (u33 : Vec Ideal S256x512 .bf16)
    (h0 : u0 = z0) (h1 : u1 = x1) (h22 : ∀ r : Fin 256, u22 (ix2 r (0 : Fin 1)) = z1 (ix2 r (0 : Fin 128))) (h25 : u25 = x2)
    (h33 : u33 = View.readAt (Elt Ideal) arg10.view (Rect.unit (s := S256x1536) (k0_off2 i) S256x512.size (k0_off2_inb i)).toLoadRect (harg10.unread y3)) :
    arg10.view.read (Elt Ideal) (arg10.view.writes (Elt Ideal) (harg10.unread y3)
        [⟨Rect.unit (s := S256x1536) (k0_off2 i) S256x512.size (k0_off2_inb i), k0_pay2 (F := Ideal) u0 u1 w1 w2 w3 u22 u25 u33⟩])
      = outT i w1 w2 w3 z0 x1 z1 x2 y3 := by
  subst h0 h1 h25 h33
  funext j
  obtain ⟨r, l, rfl⟩ : ∃ (r : Fin 256) (l : Fin 1536), j = ix2 r l := ⟨j 0, j 1, eq_ix2 j⟩
  have hn : (i 1).val < 3 := (i 1).isLt
  refine Eq.trans ?_ (show outE i w1 w2 w3 u0 u1 z1 u25 y3 r l = _ from rfl)
  unfold outE
  by_cases h : 512 * (i 1).val ≤ l.val ∧ l.val < 512 * (i 1).val + 512
  · rw [dif_pos h]
    have hcol : l.val - 512 * (i 1).val < 512 := by omega
    rw [View.read_writes_cons_unit_of_mem arg10.view (harg10.unread y3) (k0_off2_inb i) _ [] (ix2 r l) (ix2 r (⟨l.val - 512 * (i 1).val, hcol⟩ : Fin 512))
      (k0_off2_eq i) (fun a => by
        match a with
        | ⟨0, _⟩ => show r.val = 0 + r.val; omega
        | ⟨1, _⟩ => show l.val = 512 * (i 1).val + (l.val - 512 * (i 1).val); omega)]
    refine (pay2_at _ _ _ _ _ _ _ _ r (⟨l.val - 512 * (i 1).val, hcol⟩ : Fin 512)).trans ?_
    rw [h22, Memref.IsWhole.readAt_unread]
    refine congrArg (Scalar.select _ _) (congrArg y3 (funext fun a => Fin.ext ?_))
    have e := k0_off2_eq i
    match a with
    | ⟨0, _⟩ =>
      show k0_off2 i 0 + 1 * r.val = r.val
      rw [e]; show 0 + 1 * r.val = _; omega
    | ⟨1, _⟩ =>
      show k0_off2 i 1 + 1 * (l.val - 512 * (i 1).val) = l.val
      rw [e]; show 512 * (i 1).val + 1 * (l.val - 512 * (i 1).val) = _; omega
  · rw [dif_neg h]
    rw [View.read_writes_cons_unit_of_not_mem arg10.view (harg10.unread y3) (k0_off2_inb i) _ [] (ix2 r l) (k0_off2_eq i) 1
      (by show l.val < 512 * (i 1).val ∨ 512 * (i 1).val + 512 ≤ l.val; omega)]
    exact congrFun (harg10.read_unread y3) (ix2 r l)

variable (c : Dev nD) (i : grid0.Coords) (arg7 : Memref sig .tc .vmem S256x16384 .bf16) (harg7 : arg7.IsWhole) (arg8 : Memref sig .tc .vmem S1x512x16384 .fp8e4m3) (harg8 : arg8.IsWhole) (arg9 : Memref sig .tc .vmem S1x1x512 .f32) (harg9 : arg9.IsWhole) (arg10 : Memref sig .tc .vmem S256x1536 .bf16) (harg10 : arg10.IsWhole) (arg11 : Memref sig .tc .vmem S256x16384 .fp8e5m2) (harg11 : arg11.IsWhole) (arg12 : Memref sig .tc .vmem S256x128 .f32) (harg12 : arg12.IsWhole)
    (x0 : Vec Ideal S256x16384 .bf16) (x1 : Vec Ideal S1x512x16384 .fp8e4m3) (x2 : Vec Ideal S1x1x512 .f32) (xt0 : TbBuf0 (F := Ideal) c tbM0_0) (xt1 : TbBuf0 (F := Ideal) c tbM0_1) (xt2 : TbBuf0 (F := Ideal) c tbM0_2) (xt3 : TbBuf0 (F := Ideal) c tbM0_3) (xt4 : TbBuf0 (F := Ideal) c tbM0_4) (y3 : Vec Ideal S256x1536 .bf16)

/-- The words that the body reads of the tables are those at the point's first coordinate. -/
theorem word_read (g : IVec (⟨1, ![36]⟩ : Shape) 32) (h1 : (Rect.unit (s := S36) (k0_off1 i) S1.size (k0_off1_inb i)).shape.numel = 1) :
    g ((Rect.unit (s := S36) (k0_off1 i) S1.size (k0_off1_inb i)).emb (Shape.Idx.first (h1.symm ▸ Nat.one_pos))) = g (ix1 (i 0)) :=
  (at_eq g (k0_off1 i) (k0_off1_inb i) h1 (i 0) (coord_eq i)).trans (congrArg g (ix1_eq_valueIdx (i 0)).symm)

/-- The tile after a point of the first column block. -/
theorem outA_read (hc0 : cond0_0 i) (w1 w2 w3 : BitVec 32) (h1 : (xt1 : IVec (⟨1, ![36]⟩ : Shape) 32) (ix1 (i 0)) = w1) (h2 : (xt2 : IVec (⟨1, ![36]⟩ : Shape) 32) (ix1 (i 0)) = w2)
    (h3 : (xt3 : IVec (⟨1, ![36]⟩ : Shape) 32) (ix1 (i 0)) = w3) :
    arg10.view.read (Elt Ideal) (arg10.view.writes (Elt Ideal) (harg10.unread y3) (valueRunA c i arg7 harg7 arg8 harg8 arg9 harg9 arg10 harg10 arg11 harg11 arg12 harg12 hc0 x0 x1 x2 xt0 xt1 xt2 xt3 xt4 y3).1.1)
      = outT i w1 w2 w3 (codesT x0) x1 (scalesT x0) x2 y3 := by
  subst h1 h2 h3
  have hw1 := word_read i xt1 numel1_S1
  have hw2 := word_read i xt2 numel1_S1
  have hw3 := word_read i xt3 numel1_S1
  rw [← hw1, ← hw2, ← hw3]
  have hC := codes_canon c i arg7 harg7 arg8 harg8 arg9 harg9 arg10 harg10 arg11 harg11 arg12 harg12 hc0 x0 x1 x2 xt0 xt1 xt2 xt3 xt4 y3
  have hS := scales_canon c i arg7 harg7 arg8 harg8 arg9 harg9 arg10 harg10 arg11 harg11 arg12 harg12 hc0 x0 x1 x2 xt0 xt1 xt2 xt3 xt4 y3
  unfold valueRunA at hC hS ⊢
  dsimp only at hC hS ⊢
  refine out_read arg10 harg10 i _ _ _ (codesT x0) x1 (scalesT x0) x2 y3 _ _ _ _ _ ?_ ?_ ?_ ?_ ?_
  · unfold valueRunA.sl.v3
    rw [View.readCov_eq_canon', hC]
    funext j
    refine congrArg (codesT x0) (funext fun a => Fin.ext ?_)
    match a with
    | ⟨0, _⟩ => show 0 + 1 * (j 0).val = (j 0).val; omega
    | ⟨1, _⟩ => show 0 + 1 * (j 1).val = (j 1).val; omega
  · funext j
    refine (Memref.IsWhole.readAt_unread harg8 x1 _ j).trans (congrArg x1 (funext fun a => Fin.ext ?_))
    match a with
    | ⟨0, _⟩ => show 0 + 1 * (j 0).val = (j 0).val; omega
    | ⟨1, _⟩ => show 0 + 1 * (j 1).val = (j 1).val; omega
    | ⟨2, _⟩ => show 0 + 1 * (j 2).val = (j 2).val; omega
  · intro r
    unfold valueRunA.sl.v22
    rw [View.readCov_eq_canon', hS]
    refine congrArg (scalesT x0) (funext fun a => Fin.ext ?_)
    match a with
    | ⟨0, _⟩ => show 0 + 1 * r.val = r.val; omega
    | ⟨1, _⟩ => rfl
  · funext j
    refine (Memref.IsWhole.readAt_unread harg9 x2 _ j).trans (congrArg x2 (funext fun a => Fin.ext ?_))
    match a with
    | ⟨0, _⟩ => show 0 + 1 * (j 0).val = (j 0).val; omega
    | ⟨1, _⟩ => show 0 + 1 * (j 1).val = (j 1).val; omega
    | ⟨2, _⟩ => show 0 + 1 * (j 2).val = (j 2).val; omega
  · rfl

/-- The tile after a point of a later column block, from the codes and scales in the scratch. -/
theorem outB_read (hc0 : ¬ cond0_0 i) (z0 : Vec Ideal S256x16384 .fp8e5m2) (z1 : Vec Ideal S256x128 .f32) (w1 w2 w3 : BitVec 32) (h1 : (xt1 : IVec (⟨1, ![36]⟩ : Shape) 32) (ix1 (i 0)) = w1) (h2 : (xt2 : IVec (⟨1, ![36]⟩ : Shape) 32) (ix1 (i 0)) = w2)
    (h3 : (xt3 : IVec (⟨1, ![36]⟩ : Shape) 32) (ix1 (i 0)) = w3) :
    arg10.view.read (Elt Ideal) (arg10.view.writes (Elt Ideal) (harg10.unread y3) (valueRunB c i arg7 harg7 arg8 harg8 arg9 harg9 arg10 harg10 arg11 harg11 arg12 harg12 hc0 x0 x1 x2 xt0 xt1 xt2 xt3 xt4 y3 z0 z1).1)
      = outT i w1 w2 w3 z0 x1 z1 x2 y3 := by
  subst h1 h2 h3
  have hw1 := word_read i xt1 numel1_S1
  have hw2 := word_read i xt2 numel1_S1
  have hw3 := word_read i xt3 numel1_S1
  rw [← hw1, ← hw2, ← hw3]
  unfold valueRunB
  dsimp only
  refine out_read arg10 harg10 i _ _ _ z0 x1 z1 x2 y3 _ _ _ _ _ ?_ ?_ ?_ ?_ ?_
  · funext j
    refine (Memref.IsWhole.readAt_unread harg11 z0 _ j).trans (congrArg z0 (funext fun a => Fin.ext ?_))
    match a with
    | ⟨0, _⟩ => show 0 + 1 * (j 0).val = (j 0).val; omega
    | ⟨1, _⟩ => show 0 + 1 * (j 1).val = (j 1).val; omega
  · funext j
    refine (Memref.IsWhole.readAt_unread harg8 x1 _ j).trans (congrArg x1 (funext fun a => Fin.ext ?_))
    match a with
    | ⟨0, _⟩ => show 0 + 1 * (j 0).val = (j 0).val; omega
    | ⟨1, _⟩ => show 0 + 1 * (j 1).val = (j 1).val; omega
    | ⟨2, _⟩ => show 0 + 1 * (j 2).val = (j 2).val; omega
  · intro r
    refine (Memref.IsWhole.readAt_unread harg12 z1 (Rect.unit (s := S256x128) ![0, 0] S256x1.size inb_S256x128_S256x1_0_0).toLoadRect (ix2 r (0 : Fin 1))).trans (congrArg z1 (funext fun a => Fin.ext ?_))
    match a with
    | ⟨0, _⟩ => show 0 + 1 * r.val = r.val; omega
    | ⟨1, _⟩ => rfl
  · funext j
    refine (Memref.IsWhole.readAt_unread harg9 x2 _ j).trans (congrArg x2 (funext fun a => Fin.ext ?_))
    match a with
    | ⟨0, _⟩ => show 0 + 1 * (j 0).val = (j 0).val; omega
    | ⟨1, _⟩ => show 0 + 1 * (j 1).val = (j 1).val; omega
    | ⟨2, _⟩ => show 0 + 1 * (j 2).val = (j 2).val; omega
  · rfl

end Cert.KernelIdeal.Run

end
-- ==== Proof.IBlk.lean ====
/- What each input window's block holds at a grid point, element by element. -/
module

public import proofs.«01_k».proof.Proof.IOut
public import Idealize.ShloMosaic.Lib.Pipeline.ValueKit

@[expose] public section

set_option maxRecDepth 16384

noncomputable section

namespace Cert.KernelIdeal.Run

open Cert.KernelIdeal.Gen
open Idealize.ShloMosaic Idealize.ShloMosaic.TcCoe

variable (m : (ℓ : Loc nD τ sig) → Buf (Elt Ideal) ℓ)

/-- The rows that the kernel is given. -/
abbrev dyA (c : Dev nD) : Vec Ideal S8192x16384 .bf16 := m ((c.tc : Thread nD τ).loc main_arg0)
/-- The weights' codes. -/
abbrev wA (c : Dev nD) : Vec Ideal S5x1536x16384 .fp8e4m3 := m ((c.tc : Thread nD τ).loc main_arg2)
/-- The weights' scales. -/
abbrev wsA (c : Dev nD) : Vec Ideal S5x1536 .f32 := m ((c.tc : Thread nD τ).loc main_arg3)

/-- The grid's first coordinate at point `t`. -/
theorem coords0 (t : Fin grid0.N) : (grid0.coords t 0).val = t.val / 3 := by
  have ht : t.val < 108 := Nat.lt_of_lt_of_eq t.isLt N_0
  have e0 : (grid0.coords t 0).val = t.val / 3 % 36 := Pipeline.Grid.coords_val t 0 (by decide) rfl
  omega

/-- The grid's second coordinate at point `t`. -/
theorem coords1 (t : Fin grid0.N) : (grid0.coords t 1).val = t.val % 3 := by
  have e1 : (grid0.coords t 1).val = t.val / 1 % 3 := Pipeline.Grid.coords_val t 1 (by decide) rfl
  omega

variable (hf : Full m) (hO : Ok m)
include hf

/-- The block of rows of dy that point `t` reads. -/
theorem index0 (t : Fin (cfgM m hO).N) : ((cfgM m hO).win 0).index t = ![Plan.mt (sizes m) (t.val / 3), 0] := by
  rw [← coords0 t]; exact ix0_eq m hf (grid0.coords t)
/-- The block of weights that point `t` reads. -/
theorem index1 (t : Fin (cfgM m hO).N) : ((cfgM m hO).win 1).index t = ![Plan.gr (sizes m) (t.val / 3), t.val % 3, 0] := by
  rw [← coords0 t, ← coords1 t]; exact ix1_eq m hf (grid0.coords t)
/-- The block of weight scales that point `t` reads. -/
theorem index2 (t : Fin (cfgM m hO).N) : ((cfgM m hO).win 2).index t = ![Plan.gr (sizes m) (t.val / 3), 0, t.val % 3] := by
  rw [← coords0 t, ← coords1 t]; exact ix2_eq m hf (grid0.coords t)
/-- The block of the result that point `t` writes. -/
theorem index3 (t : Fin (cfgM m hO).N) : ((cfgM m hO).win 3).index t = ![Plan.mt (sizes m) (t.val / 3), 0] := by
  rw [← coords0 t]; exact ix3_eq m hf (grid0.coords t)

/-- Row `r` of row tile `i` of the given rows. -/
def rowIx (i : ℕ) (r : Fin 256) : Fin 8192 := ⟨Plan.mt (sizes m) i * 256 + r.val, by have := Plan.mt_lt _ hf i; omega⟩

/-- The tile of rows that item `i` of the plan works on. -/
def tileT (c : Dev nD) (i : ℕ) : Vec Ideal S256x16384 .bf16 := fun j => dyA m c (ix2 (rowIx m hf i (j 0)) (j 1))

/-- The slab of codes that point `t` multiplies by. -/
def wT (c : Dev nD) (t : ℕ) : Vec Ideal S1x512x16384 .fp8e4m3 := fun j =>
  wA m c (ix3 (⟨Plan.gr (sizes m) (t / 3), Plan.gr_lt _ hf _⟩ : Fin 5) (⟨t % 3 * 512 + (j 1).val, by have : (j 1).val < 512 := (j 1).isLt; omega⟩ : Fin 1536) (j 2))

/-- The scales that point `t` multiplies by. -/
def wsT (c : Dev nD) (t : ℕ) : Vec Ideal S1x1x512 .f32 := fun j =>
  wsA m c (ix2 (⟨Plan.gr (sizes m) (t / 3), Plan.gr_lt _ hf _⟩ : Fin 5) (⟨t % 3 * 512 + (j 2).val, by have : (j 2).val < 512 := (j 2).isLt; omega⟩ : Fin 1536))

/-- The rows of dy that point `t` works on. -/
theorem iblk0_eq (c : Dev nD) (t : Fin (cfgM m hO).N) : (iblk m hO c 0 t : Vec Ideal S256x16384 .bf16) = tileT m hf c (t.val / 3) := by
  refine funext fun (j : S256x16384.Idx) => ?_
  obtain ⟨r, k, rfl⟩ : ∃ (r : Fin 256) (k : Fin 16384), j = ix2 r k := ⟨j 0, j 1, eq_ix2 j⟩
  have e := index0 m hf hO t
  refine Eq.trans (show _ = V m c main_arg0 ((((cfgM m hO).win 0).blk t).view.emb (ix2 r k)) from rfl) ?_
  rw [V_main_arg0 m c]
  refine congrArg (m ((c.tc : Thread nD τ).loc main_arg0)) (funext fun a => Fin.ext ?_)
  refine (Pipeline.Window.rect_emb_val ((cfgM m hO).win 0) t (ix2 r k) a).trans ?_
  rw [e]
  match a with
  | ⟨0, _⟩ => rfl
  | ⟨1, _⟩ => show 0 * 16384 + k.val = k.val; omega

/-- The weights that point `t` works on. -/
theorem iblk1_eq (c : Dev nD) (t : Fin (cfgM m hO).N) : (iblk m hO c 1 t : Vec Ideal S1x512x16384 .fp8e4m3) = wT m hf c t.val := by
  refine funext fun (j : S1x512x16384.Idx) => ?_
  obtain ⟨z, r, k, rfl⟩ : ∃ (z : Fin 1) (r : Fin 512) (k : Fin 16384), j = ix3 z r k := ⟨j 0, j 1, j 2, eq_ix3 j⟩
  have e := index1 m hf hO t
  refine Eq.trans (show _ = V m c main_arg2 ((((cfgM m hO).win 1).blk t).view.emb (ix3 z r k)) from rfl) ?_
  rw [V_main_arg2 m c]
  refine congrArg (m ((c.tc : Thread nD τ).loc main_arg2)) (funext fun a => Fin.ext ?_)
  refine (Pipeline.Window.rect_emb_val ((cfgM m hO).win 1) t (ix3 z r k) a).trans ?_
  rw [e]
  match a with
  | ⟨0, _⟩ => show Plan.gr (sizes m) (t.val / 3) * 1 + z.val = Plan.gr (sizes m) (t.val / 3); omega
  | ⟨1, _⟩ => rfl
  | ⟨2, _⟩ => show 0 * 16384 + k.val = k.val; omega

/-- The scales laid out with a unit axis in the middle. -/
theorem ws_at (v : Vec Ideal S5x1536 .f32) (g : Fin 5) (l : Fin 1536) :
    shapeCast S5x1x1536 v shapeCasts_S5x1536_S5x1x1536 (ix3 g (0 : Fin 1) l) = v (ix2 g l) := by
  pointwise

/-- Where an element of the scales' block lies in their array. -/
theorem emb2 (t : Fin (cfgM m hO).N) (z r : Fin 1) (k : Fin 512) (hg : Plan.gr (sizes m) (t.val / 3) < 5) (hk : t.val % 3 * 512 + k.val < 1536) :
    ((((cfgM m hO).win 2).blk t).view.emb (ix3 z r k) : S5x1x1536.Idx) = ix3 (⟨Plan.gr (sizes m) (t.val / 3), hg⟩ : Fin 5) (0 : Fin 1) (⟨t.val % 3 * 512 + k.val, hk⟩ : Fin 1536) := by
  have e := index2 m hf hO t
  refine (funext fun a => Fin.ext ?_)
  refine (Pipeline.Window.rect_emb_val ((cfgM m hO).win 2) t (ix3 z r k) a).trans ?_
  rw [e]
  match a with
  | ⟨0, _⟩ => show Plan.gr (sizes m) (t.val / 3) * 1 + z.val = Plan.gr (sizes m) (t.val / 3); omega
  | ⟨1, _⟩ => show 0 * 1 + r.val = 0; omega
  | ⟨2, _⟩ => rfl

/-- The weight scales that point `t` works on. -/
theorem iblk2_eq (c : Dev nD) (t : Fin (cfgM m hO).N) : (iblk m hO c 2 t : Vec Ideal S1x1x512 .f32) = wsT m hf c t.val := by
  refine funext fun (j : S1x1x512.Idx) => ?_
  obtain ⟨z, r, k, rfl⟩ : ∃ (z : Fin 1) (r : Fin 1) (k : Fin 512), j = ix3 z r k := ⟨j 0, j 1, j 2, eq_ix3 j⟩
  have hk : t.val % 3 * 512 + k.val < 1536 := by omega
  have hg : Plan.gr (sizes m) (t.val / 3) < 5 := Plan.gr_lt _ hf _
  refine Eq.trans (show _ = V m c main_v58 ((((cfgM m hO).win 2).blk t).view.emb (ix3 z r k)) from rfl) ?_
  exact ((congrArg (V m c main_v58) (emb2 m hf hO t z r k hg hk)).trans (congrFun (V_ws m c) _)).trans (ws_at m hf (wsA m c) _ _)

end Cert.KernelIdeal.Run

end
-- ==== Proof.IDat.lean ====
/- The pipeline's proof data with the output named: each point turns the tile it finds into the tile with its own
   column block's rows replaced; the scratch carries the row tile's codes and scales from one column block to the next. -/
module

public import proofs.«01_k».proof.Proof.IBlk
public import Idealize.ShloMosaic.Lib.Claim

@[expose] public section

set_option maxRecDepth 16384

noncomputable section

namespace Cert.KernelIdeal.Run

open Cert.KernelIdeal.Gen
open Idealize.ShloMosaic Idealize.ShloMosaic.TcCoe
open Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf)

variable (m : (ℓ : Loc nD τ sig) → Buf (Elt Ideal) ℓ) (ρ : Dev nD → PrngReg)
variable (hf : Full m) (hO : Ok m)

/-- The tile that point `t` makes of the tile it finds. -/
def stepT (c : Dev nD) (t : Fin grid0.N) (Y : Vec Ideal S256x1536 .bf16) : Vec Ideal S256x1536 .bf16 :=
  outT (grid0.coords t) (BitVec.ofNat 32 (Plan.mt (sizes m) (t.val / 3))) (BitVec.ofNat 32 (Plan.st (sizes m) (Plan.gr (sizes m) (t.val / 3))))
    (BitVec.ofNat 32 (Plan.en (sizes m) (Plan.gr (sizes m) (t.val / 3))))
    (codesT (tileT m hf c (t.val / 3))) (wT m hf c t.val) (scalesT (tileT m hf c (t.val / 3))) (wsT m hf c t.val) Y

/-- The invariant before point `t`: the scratch at some contents, which after the first column block of a row tile are
    that tile's codes and scales; the generator register; the tables. -/
def inv (c : Dev nD) (t : ℕ) : sProp (MT nD τ sig Unit (Elt Ideal) ℕ (UR sig nD τ) ℕ) :=
  iprop((∃ d0 d1, ⌜t % 3 ≠ 0 → d0 = codesT (tileT m hf c (t / 3)) ∧ d1 = scalesT (tileT m hf c (t / 3))⌝
      ∗ owns (c : Thread nD τ) scM0_0 fullShare d0 ∗ owns (c : Thread nD τ) scM0_1 fullShare d1)
    ∗ (∃ r, prngReg c r) ∗ Pipeline.ΦT pre0 (tbl m) c)

/-- The proof data: the arrays as the region finds them, inputs left as found, the output tile as `stepT` makes it. -/
def rdat (c : Dev nD) : RDat τ (Elt Ideal) Unit ℕ (UR sig nD τ) ℕ (cfgM m hO) c where
  A w := V m c (Pipeline.arrRef spec0 w)
  after w t Y X := match w with
    | ⟨0, _⟩ => X = Y
    | ⟨1, _⟩ => X = Y
    | ⟨2, _⟩ => X = Y
    | ⟨3, _⟩ => X = stepT m hf c t Y
  Φ t := inv m hf c t.val
  q _ := fullShare
  owed _ := 0

/-- The arrays of the windows are those that the launch is entered with. -/
theorem rA_eq (c : Dev nD) (w : Fin (cfgM m hO).W) : (rdat m hf hO c).A w = V m c (Pipeline.arrRef spec0 w) := by
  dsimp only [rdat]

/-- At every point the first window holds its rows of dy. -/
theorem finds0 (c : Dev nD) (t : Fin (cfgM m hO).N) (Y) (h : (rdat m hf hO c).Finds 0 t Y) : Y = iblk m hO c 0 t := by
  obtain ⟨d, rfl⟩ := (rdat m hf hO c).finds_in_eq_fetched 0 rfl (fun _ _ _ => rfl) (fun t Y X h => h) t Y h
  unfold RDat.fetched RDat.blockOf iblk; rw [rA_eq]; try rfl
/-- At every point the second window holds its weights. -/
theorem finds1 (c : Dev nD) (t : Fin (cfgM m hO).N) (Y) (h : (rdat m hf hO c).Finds 1 t Y) : Y = iblk m hO c 1 t := by
  obtain ⟨d, rfl⟩ := (rdat m hf hO c).finds_in_eq_fetched 1 rfl (fun _ _ _ => rfl) (fun t Y X h => h) t Y h
  unfold RDat.fetched RDat.blockOf iblk; rw [rA_eq]; try rfl
/-- At every point the third window holds its weight scales. -/
theorem finds2 (c : Dev nD) (t : Fin (cfgM m hO).N) (Y) (h : (rdat m hf hO c).Finds 2 t Y) : Y = iblk m hO c 2 t := by
  obtain ⟨d, rfl⟩ := (rdat m hf hO c).finds_in_eq_fetched 2 rfl (fun _ _ _ => rfl) (fun t Y X h => h) t Y h
  unfold RDat.fetched RDat.blockOf iblk; rw [rA_eq]; try rfl

include hf in
/-- The words that point `t` reads of the tables of row tiles, first rows and last rows. -/
theorem word1 (t : Fin grid0.N) : (tbl m 1 : IVec (⟨1, ![36]⟩ : Shape) 32) (ix1 (grid0.coords t 0)) = BitVec.ofNat 32 (Plan.mt (sizes m) (t.val / 3)) := by
  rw [← coords0 t]
  exact (congrArg (V m 0 main_v42) (ix1_eq_valueIdx (n0 := 36) (grid0.coords t 0))).trans ((congrFun (V_mt m 0) _).trans (Tables.mt_ap _ hf (grid0.coords t 0)))
include hf in
/-- The first row of its group, as point `t` reads it. -/
theorem word2 (t : Fin grid0.N) : (tbl m 2 : IVec (⟨1, ![36]⟩ : Shape) 32) (ix1 (grid0.coords t 0)) = BitVec.ofNat 32 (Plan.st (sizes m) (Plan.gr (sizes m) (t.val / 3))) := by
  rw [← coords0 t]
  exact (congrArg (V m 0 main_v49) (ix1_eq_valueIdx (n0 := 36) (grid0.coords t 0))).trans ((congrFun (V_lo m 0) _).trans (Tables.lo_ap _ hf (grid0.coords t 0)))
include hf in
/-- The end of its group, as point `t` reads it. -/
theorem word3 (t : Fin grid0.N) : (tbl m 3 : IVec (⟨1, ![36]⟩ : Shape) 32) (ix1 (grid0.coords t 0)) = BitVec.ofNat 32 (Plan.en (sizes m) (Plan.gr (sizes m) (t.val / 3))) := by
  rw [← coords0 t]
  exact (congrArg (V m 0 main_v56) (ix1_eq_valueIdx (n0 := 36) (grid0.coords t 0))).trans ((congrFun (V_hi m 0) _).trans (Tables.hi_ap _ hf (grid0.coords t 0)))

set_option maxHeartbeats 1600000 in
/-- The body at any point, the inputs at their blocks and the output tile at `Y`. -/
theorem point (c : Dev nD) (t : Fin (cfgM m hO).N) (Y : Vec Ideal S256x1536 .bf16) :
    iprop((rdat m hf hO c).Φ t.castSucc ∗ (rdat m hf hO c).owesAt () t.castSucc
      ∗ owns (c : Thread nD τ) (ms0_0 m hO t) fullShare (iblk m hO c 0 t)
      ∗ owns (c : Thread nD τ) (ms0_1 m hO t) fullShare (iblk m hO c 1 t)
      ∗ owns (c : Thread nD τ) (ms0_2 m hO t) fullShare (iblk m hO c 2 t)
      ∗ owns (c : Thread nD τ) (ms0_3 m hO t) fullShare Y)
    ⊢ wp frame (wpE (defs₀ (F := Ideal)) Variants.none c none) Set.univ (bodyAt0 (adm m hO) t) (fun _ =>
      iprop((rdat m hf hO c).Φ t.succ ∗ (rdat m hf hO c).owesAt () t.succ
        ∗ owns (c : Thread nD τ) (ms0_0 m hO t) fullShare (iblk m hO c 0 t)
        ∗ owns (c : Thread nD τ) (ms0_1 m hO t) fullShare (iblk m hO c 1 t)
        ∗ owns (c : Thread nD τ) (ms0_2 m hO t) fullShare (iblk m hO c 2 t)
        ∗ owns (c : Thread nD τ) (ms0_3 m hO t) fullShare (stepT m hf c t Y))) := by
  unfold bodyAt0
  rw [show (rdat m hf hO c).Φ t.succ = inv m hf c (t.val + 1) from rfl, show (rdat m hf hO c).Φ t.castSucc = inv m hf c t.val from rfl,
    show (rdat m hf hO c).owesAt () t.succ = (rdat m hf hO c).owesAt () t.castSucc from rfl]
  unfold inv
  rw [PhiT0_eq]
  have hN : t.val < 108 := lt_of_lt_of_eq t.isLt (show (cfgM m hO).N = 108 from N_0)
  by_cases h0 : t.val % 3 = 0
  · iintro ⟨⟨⟨%d0, %d1, %hd, HS0, HS1⟩, Hg, ⟨HT0, HT1, HT2, HT3, HT4⟩⟩, Ho, H0, H1, H2, H3⟩
    iapply ((valueRunA c (grid0.coords t) _ (hs0_0 m hO t) _ (hs0_1 m hO t) _ (hs0_2 m hO t) _ (hs0_3 m hO t) scM0_0 (Memref.isWhole_whole _) scM0_1 (Memref.isWhole_whole _) ((hcond0_0 t).mpr h0) (iblk m hO c 0 t) (iblk m hO c 1 t) (iblk m hO c 2 t) (tbl m 0) (tbl m 1) (tbl m 2) (tbl m 3) (tbl m 4) Y).2 Set.univ _)
    isplitl [H0]; · iexact H0
    isplitl [H1]; · iexact H1
    isplitl [H2]; · iexact H2
    isplitl [H3]; · iexact H3
    isplitl [HS0]; · iexists _; iexact HS0
    isplitl [HS1]; · iexists _; iexact HS1
    isplitl [HT0]; · iexact HT0
    isplitl [HT1]; · iexact HT1
    isplitl [HT2]; · iexact HT2
    isplitl [HT3]; · iexact HT3
    isplitl [HT4]; · iexact HT4
    iintro ⟨H0, H1, H2, H3, ⟨%f0, HS0⟩, ⟨%f1, HS1⟩, HT0, HT1, HT2, HT3, HT4⟩
    isplitl [HS0 HS1 Hg HT0 HT1 HT2 HT3 HT4]
    · isplitl [HS0 HS1]
      · iexists (codesT (iblk m hO c 0 t))
        iexists (scalesT (iblk m hO c 0 t))
        isplitr
        · ipureintro
          intro _
          rw [iblk0_eq m hf hO c t, show (t.val + 1) / 3 = t.val / 3 by omega]
          exact ⟨rfl, rfl⟩
        isplitl [HS0]
        · unfold owns
          iexists _
          isplitr
          · ipureintro
            exact (View.read_writes_eq_canon scM0_0.view f0 _ (codes_cover c (grid0.coords t) (ms0_0 m hO t) (hs0_0 m hO t) (ms0_1 m hO t) (hs0_1 m hO t) (ms0_2 m hO t) (hs0_2 m hO t) (ms0_3 m hO t) (hs0_3 m hO t) scM0_0 (Memref.isWhole_whole _) scM0_1 (Memref.isWhole_whole _) ((hcond0_0 t).mpr h0) (iblk m hO c 0 t) (iblk m hO c 1 t) (iblk m hO c 2 t) (tbl m 0) (tbl m 1) (tbl m 2) (tbl m 3) (tbl m 4) Y)).trans (codes_canon c (grid0.coords t) (ms0_0 m hO t) (hs0_0 m hO t) (ms0_1 m hO t) (hs0_1 m hO t) (ms0_2 m hO t) (hs0_2 m hO t) (ms0_3 m hO t) (hs0_3 m hO t) scM0_0 (Memref.isWhole_whole _) scM0_1 (Memref.isWhole_whole _) ((hcond0_0 t).mpr h0) (iblk m hO c 0 t) (iblk m hO c 1 t) (iblk m hO c 2 t) (tbl m 0) (tbl m 1) (tbl m 2) (tbl m 3) (tbl m 4) Y)
          iexact HS0
        · unfold owns
          iexists _
          isplitr
          · ipureintro
            exact (View.read_writes_eq_canon scM0_1.view f1 _ (scales_cover c (grid0.coords t) (ms0_0 m hO t) (hs0_0 m hO t) (ms0_1 m hO t) (hs0_1 m hO t) (ms0_2 m hO t) (hs0_2 m hO t) (ms0_3 m hO t) (hs0_3 m hO t) scM0_0 (Memref.isWhole_whole _) scM0_1 (Memref.isWhole_whole _) ((hcond0_0 t).mpr h0) (iblk m hO c 0 t) (iblk m hO c 1 t) (iblk m hO c 2 t) (tbl m 0) (tbl m 1) (tbl m 2) (tbl m 3) (tbl m 4) Y)).trans (scales_canon c (grid0.coords t) (ms0_0 m hO t) (hs0_0 m hO t) (ms0_1 m hO t) (hs0_1 m hO t) (ms0_2 m hO t) (hs0_2 m hO t) (ms0_3 m hO t) (hs0_3 m hO t) scM0_0 (Memref.isWhole_whole _) scM0_1 (Memref.isWhole_whole _) ((hcond0_0 t).mpr h0) (iblk m hO c 0 t) (iblk m hO c 1 t) (iblk m hO c 2 t) (tbl m 0) (tbl m 1) (tbl m 2) (tbl m 3) (tbl m 4) Y)
          iexact HS1
      isplitl [Hg]; · iexact Hg
      isplitl [HT0]; · iexact HT0
      isplitl [HT1]; · iexact HT1
      isplitl [HT2]; · iexact HT2
      isplitl [HT3]; · iexact HT3
      iexact HT4
    isplitl [Ho]; · iexact Ho
    isplitl [H0]; · iexact H0
    isplitl [H1]; · iexact H1
    isplitl [H2]; · iexact H2
    unfold owns
    iexists _
    isplitr
    · ipureintro
      refine (outA_read c (grid0.coords t) _ (hs0_0 m hO t) _ (hs0_1 m hO t) _ (hs0_2 m hO t) _ (hs0_3 m hO t) scM0_0 (Memref.isWhole_whole _) scM0_1 (Memref.isWhole_whole _) (iblk m hO c 0 t) (iblk m hO c 1 t) (iblk m hO c 2 t) (tbl m 0) (tbl m 1) (tbl m 2) (tbl m 3) (tbl m 4) Y ((hcond0_0 t).mpr h0) _ _ _ (word1 m hf t) (word2 m hf t) (word3 m hf t)).trans ?_
      unfold stepT
      rw [iblk0_eq m hf hO c t, iblk1_eq m hf hO c t, iblk2_eq m hf hO c t]
    iexact H3
  · iintro ⟨⟨⟨%d0, %d1, %hd, HS0, HS1⟩, Hg, ⟨HT0, HT1, HT2, HT3, HT4⟩⟩, Ho, H0, H1, H2, H3⟩
    iapply ((valueRunB c (grid0.coords t) _ (hs0_0 m hO t) _ (hs0_1 m hO t) _ (hs0_2 m hO t) _ (hs0_3 m hO t) scM0_0 (Memref.isWhole_whole _) scM0_1 (Memref.isWhole_whole _) (fun h => h0 ((hcond0_0 t).mp h)) (iblk m hO c 0 t) (iblk m hO c 1 t) (iblk m hO c 2 t) (tbl m 0) (tbl m 1) (tbl m 2) (tbl m 3) (tbl m 4) Y d0 d1).2 Set.univ _)
    isplitl [H0]; · iexact H0
    isplitl [H1]; · iexact H1
    isplitl [H2]; · iexact H2
    isplitl [H3]; · iexact H3
    isplitl [HS0]; · iexact HS0
    isplitl [HS1]; · iexact HS1
    isplitl [HT0]; · iexact HT0
    isplitl [HT1]; · iexact HT1
    isplitl [HT2]; · iexact HT2
    isplitl [HT3]; · iexact HT3
    isplitl [HT4]; · iexact HT4
    iintro ⟨H0, H1, H2, H3, HS0, HS1, HT0, HT1, HT2, HT3, HT4⟩
    isplitl [HS0 HS1 Hg HT0 HT1 HT2 HT3 HT4]
    · isplitl [HS0 HS1]
      · iexists d0
        iexists d1
        isplitr
        · ipureintro
          intro h1
          rw [show (t.val + 1) / 3 = t.val / 3 by omega]
          exact hd h0
        isplitl [HS0]; · iexact HS0
        iexact HS1
      isplitl [Hg]; · iexact Hg
      isplitl [HT0]; · iexact HT0
      isplitl [HT1]; · iexact HT1
      isplitl [HT2]; · iexact HT2
      isplitl [HT3]; · iexact HT3
      iexact HT4
    isplitl [Ho]; · iexact Ho
    isplitl [H0]; · iexact H0
    isplitl [H1]; · iexact H1
    isplitl [H2]; · iexact H2
    unfold owns
    iexists _
    isplitr
    · ipureintro
      refine (outB_read c (grid0.coords t) _ (hs0_0 m hO t) _ (hs0_1 m hO t) _ (hs0_2 m hO t) _ (hs0_3 m hO t) scM0_0 (Memref.isWhole_whole _) scM0_1 (Memref.isWhole_whole _) (iblk m hO c 0 t) (iblk m hO c 1 t) (iblk m hO c 2 t) (tbl m 0) (tbl m 1) (tbl m 2) (tbl m 3) (tbl m 4) Y (fun h => h0 ((hcond0_0 t).mp h)) d0 d1 _ _ _ (word1 m hf t) (word2 m hf t) (word3 m hf t)).trans ?_
      unfold stepT
      rw [iblk1_eq m hf hO c t, iblk2_eq m hf hO c t, (hd h0).1, (hd h0).2]
    iexact H3

end Cert.KernelIdeal.Run

end
-- ==== Proof.ILaunch.lean ====
/- The kernel run with its output named: what every execution leaves is the relation of `IDat` at every write-back. -/
module

public import proofs.«01_k».proof.Proof.IDat
public import Idealize.ShloMosaic.Lib.Pipeline.ArrRel

@[expose] public section

set_option maxRecDepth 16384

noncomputable section

namespace Cert.KernelIdeal.Run

open Cert.KernelIdeal.Gen
open Idealize.ShloMosaic Idealize.ShloMosaic.TcCoe
open Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf)

variable (m : (ℓ : Loc nD τ sig) → Buf (Elt Ideal) ℓ) (ρ : Dev nD → PrngReg)
variable (hf : Full m) (hO : Ok m)

/-- The body table's row at point `t`'s slots is the body as `bodyAt0` spells it. -/
theorem row0 (t : Fin (cfgM m hO).N) :
    defs₀ (F := Ideal) .tc (cfgM m hO).body ((cfgM m hO).bodyArgs t ((cfgM m hO).slots t)) = bodyAt0 (adm m hO) t := by
  unfold defs₀; rw [Defs.onTc_tc]

set_option maxHeartbeats 1600000 in
/-- The body obligation at every point, whatever the output tile holds there. -/
theorem rbody (c : Dev nD) : (rdat m hf hO c).BodyObligation (defs₀ (F := Ideal)) Variants.none () Set.univ := fun t Y hY => by
  have h0 := finds0 m hf hO c t (Y 0) (hY 0)
  have h1 := finds1 m hf hO c t (Y 1) (hY 1)
  have h2 := finds2 m hf hO c t (Y 2) (hY 2)
  rw [bigSep_W0, bigSep_W0, row0 m hO]
  refine triple_restated (point m hf hO c t (Y 3)) rfl ?_ fun _ => ?_
  · rw [h0, h1, h2]
  · iintro ⟨HΦ, Ho, H0, H1, H2, H3⟩
    isplitl [HΦ]; · iexact HΦ
    isplitl [Ho]; · iexact Ho
    isplitl [H0]
    · iexists _; isplitr; · ipureintro; exact h0.symm
      iexact H0
    isplitl [H1]
    · iexists _; isplitr; · ipureintro; exact h1.symm
      iexact H1
    isplitl [H2]
    · iexists _; isplitr; · ipureintro; exact h2.symm
      iexact H2
    iexists _; isplitr; · ipureintro; exact (rfl : stepT m hf c t (Y 3) = stepT m hf c t (Y 3))
    iexact H3

set_option maxHeartbeats 4000000 in
set_option backward.isDefEq.respectTransparency.types false in
/-- THE LAUNCH: every execution ends, every array as the proof data say, every semaphore counter at zero. -/
theorem value_run : θ_run defs (onTc (τ := τ) (main (F := Ideal))) (s₀ m ρ) (fun r => (RDat.FramePost ((Pipeline.pin pcfgs fun _ => adm m hO) 0) (rdat m hf hO) (V m)) r ∧ r.2.sem = fun _ => 0) :=
  Pipeline.RDat.θ_run_frameP_track (Q' := _) pcfgs (fun _ => adm m hO) (0 : Fin 1) launch0 defs₀ Variants.none (rdat m hf hO) m ρ main
    (hbody := rbody m hf hO) (hshare := fun c => (rdat m hf hO c).share_full fun _ => rfl)
    (howed := fun _ _ => rfl) (V := V m) (hmain := hmain m Variants.none) (hA := rA_eq m hf hO) (hpf := V_pre m)
    (hin := fun c => by
      rw [PhiA0_eq]
      show _ ⊢ inv m hf c 0
      unfold inv
      iintro ⟨⟨⟨⟨%d0, H0⟩, ⟨%d1, H1⟩⟩, Hg⟩, HT⟩
      isplitl [H0 H1]
      · iexists d0; iexists d1
        isplitr; · ipureintro; intro h; exact absurd rfl h
        isplitl [H0]; · iexact H0
        iexact H1
      isplitl [Hg]; · iexact Hg
      iexact HT)
    (hout := fun c => by
      rw [PhiA0_eq]
      show inv m hf c _ ⊢ _
      unfold inv
      iintro ⟨⟨%d0, %d1, %hd, H0, H1⟩, Hg, HT⟩
      isplitl [H0 H1]
      · isplitl [H0]; · iexists d0; iexact H0
        iexists d1; iexact H1
      iexact Hg)

end Cert.KernelIdeal.Run

end
-- ==== Proof.IValue.lean ====
/- What the kernel leaves in its result: every row's product with its group's weights, scaled by the row's and the column's scale. -/
module

public import proofs.«01_k».proof.Proof.ILaunch
public import Idealize.ShloMosaic.Lib.Pipeline.Covers

@[expose] public section

set_option maxRecDepth 16384

noncomputable section

namespace Cert.KernelIdeal.Run

open Cert.KernelIdeal.Gen
open Idealize.ShloMosaic Idealize.ShloMosaic.TcCoe
open Idealize.ShloMosaic.Pipeline (RDat Cfg Window cellOf)

variable (m : (ℓ : Loc nD τ sig) → Buf (Elt Ideal) ℓ) (ρ : Dev nD → PrngReg)
variable (hf : Full m) (hO : Ok m)

/-- Row `R` against column `l` of group `e`. -/
def valE (c : Dev nD) (e : Fin 5) (R : Fin 8192) (l : Fin 1536) : EReal :=
  (∑ k : Fin 16384, Row.code (fun k => dyA m c (ix2 R k)) k * wA m c (ix3 e l k)) * Row.scale (fun k => dyA m c (ix2 R k)) * wsA m c (ix2 e l)

include hf in
/-- The expert of a row is one of the five. -/
theorem eid_lt (R : Fin 8192) : Plan.eid (sizes m) R.val < 5 := by
  obtain ⟨i, _, _, h1, h2⟩ := Plan.covered _ hf R.val R.isLt
  rw [Plan.eid_eq _ hf i R.val h1 h2]
  exact Plan.gr_lt _ hf i

/-- The result: each row against the group that it belongs to. -/
def valT (c : Dev nD) : Vec Ideal S8192x1536 .bf16 := fun j => valE m c ⟨Plan.eid (sizes m) (j 0).val, eid_lt m hf (j 0)⟩ (j 0) (j 1)

/-- Point `t` writes element `(r, l)` of the tile: its column block and its group's rows. -/
def hits (t : ℕ) (r : Fin 256) (l : Fin 1536) : Prop :=
  l.val / 512 = t % 3 ∧ Plan.st (sizes m) (Plan.gr (sizes m) (t / 3)) ≤ (rowIx m hf (t / 3) r).val ∧ (rowIx m hf (t / 3) r).val < Plan.en (sizes m) (Plan.gr (sizes m) (t / 3))

/-- What a point writes where it writes. -/
theorem stepT_hit (c : Dev nD) (t : Fin grid0.N) (Y : Vec Ideal S256x1536 .bf16) (r : Fin 256) (l : Fin 1536) (h : hits m hf t.val r l) :
    stepT m hf c t Y (ix2 r l) = valT m hf c (ix2 (rowIx m hf (t.val / 3) r) l) := by
  obtain ⟨hl, h1, h2⟩ := h
  have hmt := Plan.mt_lt _ hf (t.val / 3)
  have hgr := Plan.gr_lt _ hf (t.val / 3)
  have hst : Plan.st (sizes m) (Plan.gr (sizes m) (t.val / 3)) ≤ 8192 := h1.trans (rowIx m hf (t.val / 3) r).isLt.le
  have hen := Plan.en_le _ hf _ hgr
  refine Eq.trans (show stepT m hf c t Y (ix2 r l) = outE (grid0.coords t) _ _ _ _ _ _ _ Y r l from rfl) ?_
  unfold outE
  have hc : 512 * (grid0.coords t 1).val ≤ l.val ∧ l.val < 512 * (grid0.coords t 1).val + 512 := by rw [coords1]; omega
  rw [dif_pos hc, (inRows_iff _ _ _ _ hmt hst hen r.isLt).mpr ⟨h1, h2⟩]
  have hcol : (⟨t.val % 3 * 512 + (l.val - 512 * (grid0.coords t 1).val), by have := coords1 t; omega⟩ : Fin 1536) = l := Fin.ext (by
    have := coords1 t
    show t.val % 3 * 512 + (l.val - 512 * (grid0.coords t 1).val) = l.val; omega)
  have he : (⟨Plan.gr (sizes m) (t.val / 3), hgr⟩ : Fin 5) = ⟨Plan.eid (sizes m) (rowIx m hf (t.val / 3) r).val, eid_lt m hf _⟩ :=
    Fin.ext (Plan.eid_eq _ hf _ _ h1 h2).symm
  refine Eq.trans (show _ = (∑ k : Fin 16384, Row.code (fun k => dyA m c (ix2 (rowIx m hf (t.val / 3) r) k)) k
      * wA m c (ix3 (⟨Plan.gr (sizes m) (t.val / 3), hgr⟩ : Fin 5) (⟨t.val % 3 * 512 + (l.val - 512 * (grid0.coords t 1).val), by have := coords1 t; omega⟩ : Fin 1536) k))
      * Row.scale (fun k => dyA m c (ix2 (rowIx m hf (t.val / 3) r) k))
      * wsA m c (ix2 (⟨Plan.gr (sizes m) (t.val / 3), hgr⟩ : Fin 5) (⟨t.val % 3 * 512 + (l.val - 512 * (grid0.coords t 1).val), by have := coords1 t; omega⟩ : Fin 1536)) from rfl) ?_
  rw [hcol, he]
  rfl

/-- Elsewhere it leaves the tile as it was. -/
theorem stepT_miss (c : Dev nD) (t : Fin grid0.N) (Y : Vec Ideal S256x1536 .bf16) (r : Fin 256) (l : Fin 1536) (h : ¬ hits m hf t.val r l) :
    stepT m hf c t Y (ix2 r l) = Y (ix2 r l) := by
  have hmt := Plan.mt_lt _ hf (t.val / 3)
  have hgr := Plan.gr_lt _ hf (t.val / 3)
  have hen := Plan.en_le _ hf _ hgr
  have hst : Plan.st (sizes m) (Plan.gr (sizes m) (t.val / 3)) ≤ 8192 := by
    have : Plan.st (sizes m) (Plan.gr (sizes m) (t.val / 3)) ≤ Plan.en (sizes m) (Plan.gr (sizes m) (t.val / 3)) := by unfold Plan.st; omega
    omega
  refine Eq.trans (show stepT m hf c t Y (ix2 r l) = outE (grid0.coords t) _ _ _ _ _ _ _ Y r l from rfl) ?_
  unfold outE
  by_cases hc : 512 * (grid0.coords t 1).val ≤ l.val ∧ l.val < 512 * (grid0.coords t 1).val + 512
  · rw [dif_pos hc]
    have hn : inRows (BitVec.ofNat 32 (Plan.mt (sizes m) (t.val / 3))) (BitVec.ofNat 32 (Plan.st (sizes m) (Plan.gr (sizes m) (t.val / 3)))) (BitVec.ofNat 32 (Plan.en (sizes m) (Plan.gr (sizes m) (t.val / 3)))) r.val ≠ 1#1 := fun e =>
      h ⟨by rw [coords1] at hc; omega, (inRows_iff _ _ _ _ hmt hst hen r.isLt).mp e⟩
    exact if_neg hn
  · rw [dif_neg hc]

/-- What a point may leave: every element that a point of the same row tile up to it wrote is the result's. -/
theorem leaves_eq (c : Dev nD) : ∀ (n : ℕ) (t : Fin (cfgM m hO).N), t.val = n → ∀ X : Vec Ideal S256x1536 .bf16, (rdat m hf hO c).Leaves 3 t X →
    ∀ (r : Fin 256) (l : Fin 1536), (∃ u, u ≤ t.val ∧ Plan.mt (sizes m) (u / 3) = Plan.mt (sizes m) (t.val / 3) ∧ hits m hf u r l) →
      X (ix2 r l) = valT m hf c (ix2 (rowIx m hf (t.val / 3) r) l) := by
  intro n
  induction n with
  | zero =>
    rintro t ht X ⟨Y, hY, hX⟩ r l ⟨u, hu, hmt, hit⟩
    obtain rfl : u = t.val := by omega
    rw [show X = stepT m hf c t Y from hX]
    exact stepT_hit m hf c t Y r l hit
  | succ n ih =>
    rintro t ht X ⟨Y, hY, hX⟩ r l ⟨u, hu, hmt, hit⟩
    rw [show X = stepT m hf c t Y from hX]
    by_cases hh : hits m hf t.val r l
    · exact stepT_hit m hf c t Y r l hh
    rw [stepT_miss m hf c t Y r l hh]
    have hne : u ≠ t.val := fun e => hh (e ▸ hit)
    have hpred : Plan.mt (sizes m) ((t.val - 1) / 3) = Plan.mt (sizes m) (t.val / 3) := by
      have a := Plan.mt_mono _ hf (show u / 3 ≤ (t.val - 1) / 3 by omega)
      have b := Plan.mt_mono _ hf (show (t.val - 1) / 3 ≤ t.val / 3 by omega)
      omega
    have hlt : t.val - 1 < (cfgM m hO).N := Nat.lt_of_le_of_lt (Nat.sub_le _ _) t.isLt
    have hL : (rdat m hf hO c).Leaves 3 ⟨t.val - 1, hlt⟩ Y := by
      rcases ((rdat m hf hO c).finds_of_pos (w := 3) (t := t) (by unfold Pipeline.Window.fetch; rfl) (by omega) Y).mp hY with h | h
      · exfalso
        unfold Pipeline.Window.flush at h
        rw [Bool.and_eq_true, Bool.or_eq_true, decide_eq_true_eq, decide_eq_true_eq] at h
        rcases h.2 with h | ⟨h', h⟩
        · have h2 : t.val - 1 + 1 = 108 := h.trans N_0
          have h3 : t.val < 108 := lt_of_lt_of_eq t.isLt N_0
          omega
        · apply h
          rw [index3 m hf hO, index3 m hf hO]
          simp only
          rw [show t.val - 1 + 1 = t.val by omega, hpred]
      · exact h
    have := ih ⟨t.val - 1, hlt⟩ (by show t.val - 1 = n; omega) Y hL r l ⟨u, by show u ≤ t.val - 1; omega, hmt.trans hpred.symm, hit⟩
    rw [this]
    have e : rowIx m hf ((t.val - 1) / 3) r = rowIx m hf (t.val / 3) r := Fin.ext (by unfold rowIx; simp only; rw [hpred])
    exact congrArg (fun R => valT m hf c (ix2 R l)) e

/-- At a write-back the whole tile is the result's. -/
theorem flush_eq (c : Dev nD) (t : Fin (cfgM m hO).N) (hfl : ((cfgM m hO).win 3).flush t = true) (X : Vec Ideal S256x1536 .bf16)
    (hX : (rdat m hf hO c).Leaves 3 t X) (r : Fin 256) (l : Fin 1536) : X (ix2 r l) = valT m hf c (ix2 (rowIx m hf (t.val / 3) r) l) := by
  refine leaves_eq m hf hO c _ t rfl X hX r l ?_
  obtain ⟨i, hi, hmt, h1, h2⟩ := Plan.covered _ hf (rowIx m hf (t.val / 3) r).val (rowIx m hf (t.val / 3) r).isLt
  have hmt' : Plan.mt (sizes m) i = Plan.mt (sizes m) (t.val / 3) := by
    rw [hmt]; unfold rowIx; simp only; omega
  have hN : (cfgM m hO).N = 108 := N_0
  have ht := t.isLt
  have h3 : (3 * i + l.val / 512) / 3 = i := by omega
  have hrow : rowIx m hf i r = rowIx m hf (t.val / 3) r := Fin.ext (by unfold rowIx; simp only; rw [hmt'])
  refine ⟨3 * i + l.val / 512, ?_, by rw [h3]; exact hmt', by omega, by rw [h3, hrow]; exact h1, by rw [h3, hrow]; exact h2⟩
  by_contra hgt
  unfold Pipeline.Window.flush at hfl
  rw [Bool.and_eq_true, Bool.or_eq_true, decide_eq_true_eq, decide_eq_true_eq] at hfl
  rcases hfl.2 with h | ⟨h', h⟩
  · have : t.val + 1 = 108 := h.trans N_0
    omega
  · apply h
    rw [index3 m hf hO, index3 m hf hO]
    have a := Plan.mt_mono _ hf (show t.val / 3 ≤ (t.val + 1) / 3 by omega)
    have b := Plan.mt_mono _ hf (show (t.val + 1) / 3 ≤ i by omega)
    simp only
    rw [show Plan.mt (sizes m) ((t.val + 1) / 3) = Plan.mt (sizes m) (t.val / 3) by omega]

end Cert.KernelIdeal.Run

end
-- ==== Proof.IFinal.lean ====
/- What the whole run leaves: the result's array, and the arguments as they were. -/
module

public import proofs.«01_k».proof.Proof.IValue
public import Idealize.ShloMosaic.Lib.Pipeline.Covers
public import Idealize.ShloMosaic.Lib.Pipeline.ArrRel

@[expose] public section

set_option maxRecDepth 16384

noncomputable section

namespace Cert.KernelIdeal.Run

open Cert.KernelIdeal.Gen
open Idealize.ShloMosaic Idealize.ShloMosaic.TcCoe
open Idealize.ShloMosaic.Pipeline (RDat Cfg Window cellOf)

variable (m : (ℓ : Loc nD τ sig) → Buf (Elt Ideal) ℓ) (ρ : Dev nD → PrngReg)
variable (hf : Full m) (hO : Ok m)

include hf in
/-- Every index of the result lies in a tile that is written back. -/
theorem cover3 (R : Fin 8192) (l : Fin 1536) :
    ∃ t : Fin (cfgM m hO).N, ((cfgM m hO).win 3).flush t = true ∧ ((cfgM m hO).win 3).arr.view.emb (ix2 R l) ∈ (((cfgM m hO).win 3).blk t).view.set := by
  obtain ⟨i, hi, hmt, h1, h2⟩ := Plan.covered _ hf R.val R.isLt
  have hN : (cfgM m hO).N = 108 := N_0
  obtain ⟨t, _, hfl, hix⟩ := Pipeline.Window.exists_flush_same_index ((cfgM m hO).win 3) rfl (⟨3 * i, by omega⟩ : Fin (cfgM m hO).N)
  refine ⟨t, hfl, (((cfgM m hO).win 3).emb_mem_blk_iff t (ix2 R l) rfl).mpr fun a => ?_⟩
  rw [hix, index3 m hf hO]
  have h3 : 3 * i / 3 = i := by omega
  match a with
  | ⟨0, _⟩ =>
    show Plan.mt (sizes m) (3 * i / 3) * 256 ≤ R.val ∧ R.val < Plan.mt (sizes m) (3 * i / 3) * 256 + 256
    rw [h3, hmt]; omega
  | ⟨1, _⟩ =>
    show 0 * 1536 ≤ l.val ∧ l.val < 0 * 1536 + 1536
    have := l.isLt
    omega

/-- Where the write-back of point `t` puts element `(r, l)` of the tile. -/
theorem emb3 (t : Fin (cfgM m hO).N) (r : Fin 256) (l : Fin 1536) :
    (((cfgM m hO).win 3).blk t).view.emb (ix2 r l : S256x1536.Idx) = (ix2 (rowIx m hf (t.val / 3) r) l : S8192x1536.Idx) := by
  funext a
  refine Fin.ext ?_
  refine (Pipeline.Window.rect_emb_val ((cfgM m hO).win 3) t (ix2 r l : S256x1536.Idx) a).trans ?_
  rw [index3 m hf hO]
  match a with
  | ⟨0, _⟩ =>
    show Plan.mt (sizes m) (t.val / 3) * 256 + r.val = (rowIx m hf (t.val / 3) r).val
    unfold rowIx; simp only
  | ⟨1, _⟩ => show 0 * 1536 + l.val = l.val; omega

/-- The result's array after the run. -/
theorem out_value (c : Dev nD) (after : (w : Fin (cfgM m hO).W) → (t : Fin (cfgM m hO).N) → _)
    (h : ∀ w u, ((cfgM m hO).win w).flush u = true → (rdat m hf hO c).Leaves w u (after w u)) :
    ((rdat m hf hO c).withAfter after).arrAt 3 (cfgM m hO).N = valT m hf c := by
  refine Pipeline.Dat.arrAt_eq_of_emb _ 3 _ (fun t hfl y => ?_) (fun i => ?_)
  · obtain ⟨r, l, rfl⟩ : ∃ (r : Fin 256) (l : Fin 1536), y = (ix2 r l : S256x1536.Idx) := ⟨(show S256x1536.Idx from y) 0, (show S256x1536.Idx from y) 1, (ix2_eta _).symm⟩
    exact (flush_eq m hf hO c t hfl (after 3 t) (h 3 t hfl) r l).trans (congrArg (valT m hf c) (emb3 m hf hO t r l)).symm
  · obtain ⟨R, l, rfl⟩ : ∃ (R : Fin 8192) (l : Fin 1536), i = (ix2 R l : S8192x1536.Idx) := ⟨(show S8192x1536.Idx from i) 0, (show S8192x1536.Idx from i) 1, (ix2_eta _).symm⟩
    exact cover3 m hf hO R l

include hO in
set_option backward.isDefEq.respectTransparency.types false in
set_option maxHeartbeats 4000000 in
/-- The kernel's run: its result is `valT`, its arguments are as they were. -/
theorem kernel_value : θ_run defs (onTc (τ := τ) (main (F := Ideal))) ⟨m, fun _ => 0, ρ⟩ (fun r => ∀ c : Dev nD,
      r.2.mem ((c.tc : Thread nD τ).loc main_v59) = valT m hf c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => by
    obtain ⟨h, -⟩ := h
    obtain ⟨after, hl, he⟩ := RDat.FramePost.exists_exact h c
    exact ⟨(he 3).trans (out_value m hf hO c after hl),
      (Pipeline.RDat.FramePost.arr_in h c 0 rfl).trans (V_main_arg0 m c),
      ((h c).2 main_arg1 (by decide : main_arg1 ∈ Pipeline.restRefs sig spec0)).trans (V_main_arg1 m c),
      (Pipeline.RDat.FramePost.arr_in h c 1 rfl).trans (V_main_arg2 m c),
      ((h c).2 main_arg3 (by decide : main_arg3 ∈ Pipeline.restRefs sig spec0)).trans (V_main_arg3 m c)⟩) (value_run m ρ hf hO)

end Cert.KernelIdeal.Run

end
-- ==== Proof.RQuant.lean ====
/- The reference's payloads, element by element. -/
module

public import proofs.«01_k».proof.Proof.Gen.ReferenceIdeal.Skeleton
public import proofs.«01_k».proof.Proof.Row
public import Idealize.ShloMosaic.Lib.Pointwise

@[expose] public section

set_option maxRecDepth 16384

noncomputable section

namespace Cert.ReferenceIdeal.Run

open Cert.ReferenceIdeal Cert.ReferenceIdeal.Gen
open Idealize.ShloMosaic

/-- The rows' greatest magnitudes. -/
def amaxV (v : Vec Ideal S8192x16384 .bf16) : FVec Ideal S8192x1 .f32 :=
  shapeCast S8192x1 (multiReduction .maximumf [1] S8192 (absf (k0_pay1 v)) 0xFF800000#32 reduces_S8192x16384_S8192 (.inl rfl) rfl) shapeCasts_S8192_S8192x1

/-- The rows' exponents, from their greatest magnitudes. -/
def expoV (a : FVec Ideal S8192x1 .f32) : FVec Ideal S8192x1 .f32 :=
  select (cmpf .oeq a (broadcast S8192x1 (Scalar.ofBits .f32 0x00000000#32))) (broadcast S8192x1 (Scalar.ofBits .f32 0x00000000#32))
    (maximumf (addf (floor (divf (log (mulf a (broadcast S8192x1 (Scalar.ofBits .f32 0x37924925#32)))) (log (broadcast S8192x1 (Scalar.ofBits .f32 0x40000000#32)))))
      (broadcast S8192x1 (Scalar.ofBits .f32 0x3F800000#32))) (broadcast S8192x1 (Scalar.ofBits .f32 0xC2FC0000#32)))

/-- The rows' scales, from their exponents. -/
def scaleV (e : FVec Ideal S8192x1 .f32) : FVec Ideal S8192x1 .f32 :=
  exp2 (minimumf e (broadcast S8192x1 (Scalar.ofBits .f32 0x42FE0000#32)))

/-- The factors into the codes' range, from the exponents. -/
def invV (e : FVec Ideal S8192x1 .f32) : FVec Ideal S8192x1 .f32 :=
  exp2 (maximumf (subf (broadcast S8192x1 (Scalar.ofBits .f32 0x00000000#32)) e) (broadcast S8192x1 (Scalar.ofBits .f32 0xC2FC0000#32)))

/-- The codes, from those factors. -/
def codeV (v : Vec Ideal S8192x16384 .bf16) (i : FVec Ideal S8192x1 .f32) : FVec Ideal S8192x16384 .fp8e5m2 :=
  truncf .fp8e5m2 (minimumf (broadcast S8192x16384 (Scalar.ofBits .f32 0x47600000#32)) (maximumf (broadcast S8192x16384 (Scalar.ofBits .f32 0xC7600000#32))
    (mulf (k0_pay1 v) (broadcastTo S8192x16384 i broadcasts_S8192x1_S8192x16384)))) bitsLt_fp8e5m2_f32

/-- The exponents' payload is these two steps. -/
theorem pay2_eq (v : Vec Ideal S8192x16384 .bf16) : k0_pay2 (F := Ideal) v = expoV (amaxV v) := rfl
/-- The scales' payload is this step on the exponents. -/
theorem pay3_eq (v : Vec Ideal S8192x16384 .bf16) : k0_pay3 (F := Ideal) v = scaleV (k0_pay2 v) := rfl
/-- The codes' payload is these two steps on the exponents. -/
theorem pay4_eq (v : Vec Ideal S8192x16384 .bf16) : k0_pay4 (F := Ideal) v = codeV v (invV (k0_pay2 v)) := rfl

/-- A row's greatest magnitude. -/
theorem amax_at (v : Vec Ideal S8192x16384 .bf16) (R : Fin 8192) : amaxV v (ix2 R (0 : Fin 1)) = Row.amax fun k => v (ix2 R k) := by
  unfold amaxV k0_pay1 Row.amax
  pointwise
  rfl

/-- An exponent, element by element. -/
theorem expoV_at (a : FVec Ideal S8192x1 .f32) (j : S8192x1.Idx) : expoV a j =
    Scalar.select (Ideal.cmp .oeq (a j) (Ideal.ofBits .f32 0x00000000#32)) (Ideal.ofBits .f32 0x00000000#32)
      (max (Ideal.liftRound Int.floor (Ideal.div (Ideal.log (a j * Ideal.ofBits .f32 0x37924925#32)) (Ideal.log (Ideal.ofBits .f32 0x40000000#32)))
        + Ideal.ofBits .f32 0x3F800000#32) (Ideal.ofBits .f32 0xC2FC0000#32)) := rfl
/-- A scale, element by element. -/
theorem scaleV_at (e : FVec Ideal S8192x1 .f32) (j : S8192x1.Idx) : scaleV e j = Ideal.exp2 (min (e j) (Ideal.ofBits .f32 0x42FE0000#32)) := rfl
/-- A factor, element by element. -/
theorem invV_at (e : FVec Ideal S8192x1 .f32) (j : S8192x1.Idx) :
    invV e j = Ideal.exp2 (max (Ideal.ofBits .f32 0x00000000#32 - e j) (Ideal.ofBits .f32 0xC2FC0000#32)) := rfl
/-- A code, element by element. -/
theorem codeV_at (v : Vec Ideal S8192x16384 .bf16) (i : FVec Ideal S8192x1 .f32) (R : Fin 8192) (k : Fin 16384) :
    codeV v i (ix2 R k) = min (Ideal.ofBits .f32 0x47600000#32) (max (Ideal.ofBits .f32 0xC7600000#32) (v (ix2 R k) * i (ix2 R (0 : Fin 1)))) := by
  unfold codeV k0_pay1
  pointwise

/-- The reference's exponent of a row. -/
theorem expo_at (v : Vec Ideal S8192x16384 .bf16) (R : Fin 8192) :
    k0_pay2 (F := Ideal) v (ix2 R (0 : Fin 1)) = Row.rexpo fun k => v (ix2 R k) := by
  rw [pay2_eq, expoV_at, amax_at, Row.rexpo, Row.ratio]

/-- The reference's scale of a row. -/
theorem scale_at (v : Vec Ideal S8192x16384 .bf16) (R : Fin 8192) :
    k0_pay3 (F := Ideal) v (ix2 R (0 : Fin 1)) = Row.rscale fun k => v (ix2 R k) := by
  rw [pay3_eq, scaleV_at, expo_at, Row.rscale]

/-- The reference's codes. -/
theorem code_at (v : Vec Ideal S8192x16384 .bf16) (R : Fin 8192) (k : Fin 16384) :
    k0_pay4 (F := Ideal) v (ix2 R k) = Row.rcode (fun k => v (ix2 R k)) k := by
  rw [pay4_eq, codeV_at, invV_at, expo_at, Row.rcode, Row.rinv]

/-- The number of a row's group, in words: one for each running end that the row has reached. -/
def eidW (g0 g1 g2 g3 g4 r : BitVec 32) : BitVec 32 :=
  let s (e : BitVec 32) : BitVec 32 := Scalar.select (IntOp.cmpi .sge r e) 1#32 0#32
  let e0 := IntOp.addi 0#32 g0
  let e1 := IntOp.addi e0 g1
  let e2 := IntOp.addi e1 g2
  let e3 := IntOp.addi e2 g3
  let e4 := IntOp.addi e3 g4
  IntOp.addi (IntOp.addi (IntOp.addi (IntOp.addi (IntOp.addi 0#32 (s e0)) (s e1)) (s e2)) (s e3)) (s e4)

/-- The words that the reference computes for the rows' groups. -/
theorem eid_at (g0 g1 g2 g3 g4 : BitVec 32) (R : Fin 8192) :
    k0_pay7 (F := Ideal) (iota .tc S8192x1 32 [0] iota_S8192x1_d0_w32) k0_pay5 (Scalar.addi 0#32 g0) (k0_pay6 (F := Ideal) g0) 1#32 0#32 g1 g2 g3 g4 (ix2 R (0 : Fin 1))
      = eidW g0 g1 g2 g3 g4 (BitVec.ofNat 32 R.val) := by
  unfold k0_pay7 k0_pay5 k0_pay6 eidW
  pointwise
  rfl

/-- A row's products with one group's weights. -/
def dotR (codes : FVec Ideal S8192x16384 .fp8e5m2) (w : Vec Ideal S1x1536x16384 .fp8e4m3) (R : Fin 8192) (l : Fin 1536) : EReal :=
  ∑ k : Fin 16384, codes (ix2 R k) * w (ix3 (0 : Fin 1) l k)

/-- The first two groups' scales. -/
theorem pay11_at (v76 : IVec S8192x1 32) (v78 : FVec Ideal S8192x1536 .f32) (v89 v105 : Vec Ideal S1x1536 .f32) (R : Fin 8192) (l : Fin 1536) :
    k0_pay11 (F := Ideal) v76 v78 v89 v105 (ix2 R l)
      = Scalar.select (IntOp.cmpi .eq (v76 (ix2 R (0 : Fin 1))) 1#32) (v105 (ix2 (0 : Fin 1) l))
          (Scalar.select (IntOp.cmpi .eq (v76 (ix2 R (0 : Fin 1))) 0#32) (v89 (ix2 (0 : Fin 1) l)) (v78 (ix2 R l))) := by
  unfold k0_pay11
  pointwise

/-- The first group's product. -/
theorem pay10_at (v34 : FVec Ideal S8192x16384 .fp8e5m2) (v79 : Vec Ideal S1x1536x16384 .fp8e4m3) (R : Fin 8192) (l : Fin 1536) :
    k0_pay10 (F := Ideal) v34 v79 (ix2 R l) = dotR v34 v79 R l := by
  unfold k0_pay10 dotR
  pointwise

/-- The first three groups' products. -/
theorem pay12_at (v34 : FVec Ideal S8192x16384 .fp8e5m2) (v76 : IVec S8192x1 32) (v77 v81 : FVec Ideal S8192x1536 .f32)
    (v95 v111 : Vec Ideal S1x1536x16384 .fp8e4m3) (R : Fin 8192) (l : Fin 1536) :
    k0_pay12 (F := Ideal) v34 v76 v77 v81 0#32 v95 v111 (ix2 R l)
      = Scalar.select (IntOp.cmpi .eq (v76 (ix2 R (0 : Fin 1))) 2#32) (dotR v34 v111 R l)
          (Scalar.select (IntOp.cmpi .eq (v76 (ix2 R (0 : Fin 1))) 1#32) (dotR v34 v95 R l)
            (Scalar.select (IntOp.cmpi .eq (v76 (ix2 R (0 : Fin 1))) 0#32) (v81 (ix2 R l)) (v77 (ix2 R l)))) := by
  unfold k0_pay12 dotR
  pointwise

/-- The stored element. -/
theorem pay14_at (v22 : FVec Ideal S8192x1 .f32) (v34 : FVec Ideal S8192x16384 .fp8e5m2) (v76 : IVec S8192x1 32) (v110 v118 : FVec Ideal S8192x1536 .f32)
    (v121 : Vec Ideal S1x1536 .f32) (v127 : Vec Ideal S1x1536x16384 .fp8e4m3) (v137 : Vec Ideal S1x1536 .f32) (v143 : Vec Ideal S1x1536x16384 .fp8e4m3)
    (v153 : Vec Ideal S1x1536 .f32) (R : Fin 8192) (l : Fin 1536) :
    k0_pay14 (F := Ideal) v22 v34 v76 v110 v118 v121 (k0_pay13 v76) v127 v137 v143 v153 (ix2 R l)
      = (Scalar.select (IntOp.cmpi .eq (v76 (ix2 R (0 : Fin 1))) 4#32) (dotR v34 v143 R l)
          (Scalar.select (IntOp.cmpi .eq (v76 (ix2 R (0 : Fin 1))) 3#32) (dotR v34 v127 R l) (v118 (ix2 R l))) * v22 (ix2 R (0 : Fin 1)))
        * Scalar.select (IntOp.cmpi .eq (v76 (ix2 R (0 : Fin 1))) 4#32) (v153 (ix2 (0 : Fin 1) l))
            (Scalar.select (IntOp.cmpi .eq (v76 (ix2 R (0 : Fin 1))) 3#32) (v137 (ix2 (0 : Fin 1) l))
              (Scalar.select (IntOp.cmpi .eq (v76 (ix2 R (0 : Fin 1))) 2#32) (v121 (ix2 (0 : Fin 1) l)) (v110 (ix2 R l)))) := by
  unfold k0_pay14 k0_pay13 dotR
  pointwise

end Cert.ReferenceIdeal.Run

end
-- ==== Proof.RWord.lean ====
/- The reference's group words, and its choice among the five groups. -/
module

public import proofs.«01_k».proof.Proof.RQuant
public import proofs.«01_k».proof.Proof.Plan
public import Idealize.ShloMosaic.Lib.WordCmp

@[expose] public section

noncomputable section

namespace Cert.ReferenceIdeal.Run

open Idealize.ShloMosaic

/-- One comparison with a running end, counted as a word. -/
theorem reached (R E : ℕ) (hR : R < 8192) (hE : E ≤ 8192) :
    Scalar.select (IntOp.cmpi .sge (BitVec.ofNat 32 R) (BitVec.ofNat 32 E)) 1#32 0#32 = BitVec.ofNat 32 (if E ≤ R then 1 else 0) := by
  by_cases h : E ≤ R
  · rw [(WordCmp.cmpi_sge_ofNat_eq_one_iff (w := 32) (by omega) (by omega)).mpr h, if_pos h]; rfl
  · rw [(WordCmp.cmpi_sge_ofNat_eq_zero_iff (w := 32) (by omega) (by omega)).mpr h, if_neg h]; rfl

/-- Words add like the numbers they hold. -/
theorem add_word (a b : ℕ) : IntOp.addi (BitVec.ofNat 32 a) (BitVec.ofNat 32 b) = BitVec.ofNat 32 (a + b) :=
  (BitVec.ofNat_add a b).symm

/-- The group word of a row holds the number of the row's group. -/
theorem eidW_eq (f : ℕ → ℕ) (hs : Plan.pre f 4 = 8192) (R : ℕ) (hR : R < 8192) :
    eidW (BitVec.ofNat 32 (f 0)) (BitVec.ofNat 32 (f 1)) (BitVec.ofNat 32 (f 2)) (BitVec.ofNat 32 (f 3)) (BitVec.ofNat 32 (f 4)) (BitVec.ofNat 32 R)
      = BitVec.ofNat 32 (Plan.slot f R) := by
  have h0 := Plan.pre_zero f
  have h1 := Plan.pre_succ f 0
  have h2 := Plan.pre_succ f 1
  have h3 := Plan.pre_succ f 2
  have h4 := Plan.pre_succ f 3
  simp only [Nat.zero_add, Nat.reduceAdd] at h1 h2 h3 h4
  have hc : Plan.slot f R = 0 + (if Plan.pre f 0 ≤ R then 1 else 0) + (if Plan.pre f 1 ≤ R then 1 else 0) + (if Plan.pre f 2 ≤ R then 1 else 0)
      + (if Plan.pre f 3 ≤ R then 1 else 0) + (if Plan.pre f 4 ≤ R then 1 else 0) := by
    simp [Plan.slot, Nat.count_succ]
  unfold eidW
  simp only
  rw [show (0#32 : BitVec 32) = BitVec.ofNat 32 0 from rfl, add_word, Nat.zero_add, ← h0, add_word, ← h1, add_word, ← h2, add_word, ← h3, add_word, ← h4]
  rw [show (BitVec.ofNat 32 0 : BitVec 32) = 0#32 from rfl, reached R _ hR (by omega), reached R _ hR (by omega), reached R _ hR (by omega), reached R _ hR (by omega), reached R _ hR (by omega)]
  rw [show (0#32 : BitVec 32) = BitVec.ofNat 32 0 from rfl, add_word, add_word, add_word, add_word, add_word, hc]

/-- Choosing among five by the group word. -/
theorem pick (a : Fin 5 → EReal) (z : EReal) (e : Fin 5) :
    Scalar.select (IntOp.cmpi .eq (BitVec.ofNat 32 e.val) 4#32) (a 4) (Scalar.select (IntOp.cmpi .eq (BitVec.ofNat 32 e.val) 3#32) (a 3)
      (Scalar.select (IntOp.cmpi .eq (BitVec.ofNat 32 e.val) 2#32) (a 2) (Scalar.select (IntOp.cmpi .eq (BitVec.ofNat 32 e.val) 1#32) (a 1)
        (Scalar.select (IntOp.cmpi .eq (BitVec.ofNat 32 e.val) 0#32) (a 0) z)))) = a e := by
  match e with
  | ⟨0, _⟩ => rfl
  | ⟨1, _⟩ => rfl
  | ⟨2, _⟩ => rfl
  | ⟨3, _⟩ => rfl
  | ⟨4, _⟩ => rfl

end Cert.ReferenceIdeal.Run

end
-- ==== Proof.RValue.lean ====
/- What the reference stores: every row's product with its group's weights, scaled by the row's and the column's scale. -/
module

public import proofs.«01_k».proof.Proof.RWord
public import proofs.«01_k».proof.Proof.Gen.ReferenceIdeal.Value
public import Idealize.ShloMosaic.Lib.WritesUnit
public import Idealize.ShloMosaic.Lib.WholeRead

@[expose] public section

set_option maxRecDepth 16384

noncomputable section

namespace Cert.ReferenceIdeal.Run

open Cert.ReferenceIdeal Cert.ReferenceIdeal.Gen
open Idealize.ShloMosaic Idealize.ShloMosaic.TcCoe

/-- Row `R` against column `l` of group `e`, as the reference computes it. -/
def valE (dy : Vec Ideal S8192x16384 .bf16) (w : Vec Ideal S5x1536x16384 .fp8e4m3) (ws : Vec Ideal S5x1536 .f32) (e : Fin 5) (R : Fin 8192) (l : Fin 1536) : EReal :=
  (∑ k : Fin 16384, Row.rcode (fun k => dy (ix2 R k)) k * w (ix3 e l k)) * Row.rscale (fun k => dy (ix2 R k)) * ws (ix2 e l)

/-- One stored element, from what the reference loads. -/
theorem stored_at (dy : Vec Ideal S8192x16384 .bf16) (w : Vec Ideal S5x1536x16384 .fp8e4m3) (ws : Vec Ideal S5x1536 .f32) (f : ℕ → ℕ) (hs : Plan.pre f 4 = 8192)
    (v0 : Vec Ideal S8192x16384 .bf16) (g0 g1 g2 g3 g4 : BitVec 32) (w0 w1 w2 w3 w4 : Vec Ideal S1x1536x16384 .fp8e4m3) (s0 s1 s2 s3 s4 : Vec Ideal S1x1536 .f32)
    (V : IVec S8192x1 32) (hV : V = k0_pay7 (F := Ideal) (iota .tc S8192x1 32 [0] iota_S8192x1_d0_w32) k0_pay5 (Scalar.addi 0#32 g0) (k0_pay6 (F := Ideal) g0) 1#32 0#32 g1 g2 g3 g4)
    (h0 : v0 = dy) (hg0 : g0 = BitVec.ofNat 32 (f 0)) (hg1 : g1 = BitVec.ofNat 32 (f 1)) (hg2 : g2 = BitVec.ofNat 32 (f 2)) (hg3 : g3 = BitVec.ofNat 32 (f 3)) (hg4 : g4 = BitVec.ofNat 32 (f 4))
    (hw0 : ∀ l k, w0 (ix3 (0 : Fin 1) l k) = w (ix3 (0 : Fin 5) l k)) (hw1 : ∀ l k, w1 (ix3 (0 : Fin 1) l k) = w (ix3 (1 : Fin 5) l k))
    (hw2 : ∀ l k, w2 (ix3 (0 : Fin 1) l k) = w (ix3 (2 : Fin 5) l k)) (hw3 : ∀ l k, w3 (ix3 (0 : Fin 1) l k) = w (ix3 (3 : Fin 5) l k))
    (hw4 : ∀ l k, w4 (ix3 (0 : Fin 1) l k) = w (ix3 (4 : Fin 5) l k))
    (hs0 : ∀ l, s0 (ix2 (0 : Fin 1) l) = ws (ix2 (0 : Fin 5) l)) (hs1 : ∀ l, s1 (ix2 (0 : Fin 1) l) = ws (ix2 (1 : Fin 5) l))
    (hs2 : ∀ l, s2 (ix2 (0 : Fin 1) l) = ws (ix2 (2 : Fin 5) l)) (hs3 : ∀ l, s3 (ix2 (0 : Fin 1) l) = ws (ix2 (3 : Fin 5) l))
    (hs4 : ∀ l, s4 (ix2 (0 : Fin 1) l) = ws (ix2 (4 : Fin 5) l)) (R : Fin 8192) (l : Fin 1536) (e : Fin 5) (he : Plan.slot f R.val = e.val) :
    k0_pay14 (F := Ideal) (k0_pay3 v0) (k0_pay4 v0) V (k0_pay11 V k0_pay9 s0 s1) (k0_pay12 (k0_pay4 v0) V k0_pay8 (k0_pay10 (k0_pay4 v0) w0) 0#32 w1 w2) s2 (k0_pay13 V) w3 s3 w4 s4 (ix2 R l)
      = valE dy w ws e R l := by
  subst h0 hg0 hg1 hg2 hg3 hg4
  have hW : V (ix2 R (0 : Fin 1)) = BitVec.ofNat 32 e.val := by
    rw [hV, eid_at, eidW_eq f hs R.val R.isLt, he]
  have hd : ∀ (u : Vec Ideal S1x1536x16384 .fp8e4m3) (i : Fin 5) (hu : ∀ l k, u (ix3 (0 : Fin 1) l k) = w (ix3 i l k)),
      dotR (k0_pay4 (F := Ideal) v0) u R l = ∑ k : Fin 16384, Row.rcode (fun k => v0 (ix2 R k)) k * w (ix3 i l k) := fun u i hu =>
    Finset.sum_congr rfl fun k _ => by rw [code_at, hu]
  rw [pay14_at, pay12_at, pay11_at, pay10_at, scale_at, hW, hd w0 0 hw0, hd w1 1 hw1, hd w2 2 hw2, hd w3 3 hw3, hd w4 4 hw4, hs0, hs1, hs2, hs3, hs4]
  rw [pick (fun i => ∑ k : Fin 16384, Row.rcode (fun k => v0 (ix2 R k)) k * w (ix3 i l k)), pick (fun i => ws (ix2 i l))]
  rfl

/-- A load of one group's size. -/
theorem word_read (a : Memref sig .tc .smem S5 .i32) (ha : a.IsWhole) (x : Vec Ideal S5 .i32) (e : Fin 5)
    (inb : ∀ i, (![e.val] : Fin 1 → ℕ) i + S1.size i ≤ S5.size i) (h : 0 < (Rect.unit (s := S5) ![e.val] S1.size inb).toLoadRect.shape.numel) :
    View.readAt (Elt Ideal) a.view (Rect.unit (s := S5) ![e.val] S1.size inb).toLoadRect (ha.unread x) (Shape.Idx.first h) = x (ix1 e) := by
  refine (Memref.IsWhole.readAt_unread ha x _ _).trans (congrArg x (funext fun i => Fin.ext ?_))
  match i with
  | ⟨0, _⟩ => rfl

/-- A load of one group's codes. -/
theorem slab_read (a : Memref sig .tc .vmem S5x1536x16384 .fp8e4m3) (ha : a.IsWhole) (x : Vec Ideal S5x1536x16384 .fp8e4m3) (e : Fin 5)
    (inb : ∀ i, (![e.val, 0, 0] : Fin 3 → ℕ) i + S1x1536x16384.size i ≤ S5x1536x16384.size i) (l : Fin 1536) (k : Fin 16384) :
    View.readAt (Elt Ideal) a.view (Rect.unit (s := S5x1536x16384) ![e.val, 0, 0] S1x1536x16384.size inb).toLoadRect (ha.unread x) (ix3 (0 : Fin 1) l k) = x (ix3 e l k) := by
  refine (Memref.IsWhole.readAt_unread ha x _ _).trans (congrArg x (funext fun i => Fin.ext ?_))
  match i with
  | ⟨0, _⟩ => rfl
  | ⟨1, _⟩ => show 0 + 1 * l.val = l.val; omega
  | ⟨2, _⟩ => show 0 + 1 * k.val = k.val; omega

/-- A load of one group's scales. -/
theorem row_read (a : Memref sig .tc .vmem S5x1536 .f32) (ha : a.IsWhole) (x : Vec Ideal S5x1536 .f32) (e : Fin 5)
    (inb : ∀ i, (![e.val, 0] : Fin 2 → ℕ) i + S1x1536.size i ≤ S5x1536.size i) (l : Fin 1536) :
    View.readAt (Elt Ideal) a.view (Rect.unit (s := S5x1536) ![e.val, 0] S1x1536.size inb).toLoadRect (ha.unread x) (ix2 (0 : Fin 1) l) = x (ix2 e l) := by
  refine (Memref.IsWhole.readAt_unread ha x _ _).trans (congrArg x (funext fun i => Fin.ext ?_))
  match i with
  | ⟨0, _⟩ => rfl
  | ⟨1, _⟩ => show 0 + 1 * l.val = l.val; omega

/-- The load of all rows. -/
theorem whole_read (a : Memref sig .tc .vmem S8192x16384 .bf16) (ha : a.IsWhole) (x : Vec Ideal S8192x16384 .bf16) :
    View.readAt (Elt Ideal) a.view (Rect.unit (s := S8192x16384) ![0, 0] S8192x16384.size inb_S8192x16384_S8192x16384_0_0).toLoadRect (ha.unread x) = x := by
  funext j
  refine (Memref.IsWhole.readAt_unread ha x _ j).trans (congrArg x (funext fun i => Fin.ext ?_))
  match i with
  | ⟨0, _⟩ => show 0 + 1 * (j 0).val = (j 0).val; omega
  | ⟨1, _⟩ => show 0 + 1 * (j 1).val = (j 1).val; omega

/-- The stored array, read back. -/
theorem out_at (c : Dev nD) (arg0 : Memref sig .tc .smem S5 .i32) (harg0 : arg0.IsWhole) (arg1 : Memref sig .tc .vmem S8192x16384 .bf16) (harg1 : arg1.IsWhole) (arg2 : Memref sig .tc .vmem S5x1536x16384 .fp8e4m3) (harg2 : arg2.IsWhole) (arg3 : Memref sig .tc .vmem S5x1536 .f32) (harg3 : arg3.IsWhole) (arg4 : Memref sig .tc .vmem S8192x1536 .bf16) (harg4 : arg4.IsWhole)
    (x0 : Vec Ideal S5 .i32) (x1 : Vec Ideal S8192x16384 .bf16) (x2 : Vec Ideal S5x1536x16384 .fp8e4m3) (x3 : Vec Ideal S5x1536 .f32)
    (f : ℕ → ℕ) (hs : Plan.pre f 4 = 8192) (hx : ∀ e : Fin 5, x0 (ix1 e) = BitVec.ofNat 32 (f e.val)) (R : Fin 8192) (l : Fin 1536) (e : Fin 5) (he : Plan.slot f R.val = e.val) :
    out0_A_4 c arg0 harg0 arg1 harg1 arg2 harg2 arg3 harg3 arg4 harg4 x0 x1 x2 x3 (ix2 R l) = valE x1 x2 x3 e R l := by
  unfold out0_A_4 kernelRun0_A
  dsimp only
  refine (View.read_writes_cons_unit_of_mem VO0_4 _ inb_S8192x1536_S8192x1536_0_0 _ [] (ix2 R l) (ix2 R l) rfl (fun a => ?_)).trans ?_
  · match a with
    | ⟨0, _⟩ => show R.val = 0 + R.val; omega
    | ⟨1, _⟩ => show l.val = 0 + l.val; omega
  · unfold kernelRun0_A.sl.r_1 kernelRun0_A.sl.r_10 kernelRun0_A.sl.r_11 kernelRun0_A.sl.r_12 kernelRun0_A.sl.r_13 kernelRun0_A.sl.r_9 kernelRun0_A.sl.r_2
    generalize hV : kernelRun0_A.sl.r_8 c arg0 harg0 x0 = V
    unfold kernelRun0_A.sl.r_8 kernelRun0_A.sl.v35 kernelRun0_A.sl.v38 kernelRun0_A.sl.r_3 kernelRun0_A.sl.r_4 kernelRun0_A.sl.r_5 kernelRun0_A.sl.r_6 kernelRun0_A.sl.r_7 at hV
    refine stored_at x1 x2 x3 f hs _ _ _ _ _ _ _ _ _ _ _ _ _ _ _ _ V hV.symm (whole_read arg1 harg1 x1) ?_ ?_ ?_ ?_ ?_
      (slab_read arg2 harg2 x2 0 _) (slab_read arg2 harg2 x2 1 _) (slab_read arg2 harg2 x2 2 _) (slab_read arg2 harg2 x2 3 _) (slab_read arg2 harg2 x2 4 _)
      (row_read arg3 harg3 x3 0 _) (row_read arg3 harg3 x3 1 _) (row_read arg3 harg3 x3 2 _) (row_read arg3 harg3 x3 3 _) (row_read arg3 harg3 x3 4 _) R l e he
    · unfold kernelRun0_A.sl.r
      exact (word_read arg0 harg0 x0 0 _ _).trans (hx 0)
    · exact (word_read arg0 harg0 x0 1 _ _).trans (hx 1)
    · exact (word_read arg0 harg0 x0 2 _ _).trans (hx 2)
    · exact (word_read arg0 harg0 x0 3 _ _).trans (hx 3)
    · exact (word_read arg0 harg0 x0 4 _ _).trans (hx 4)

/-! ## The run -/

variable (m : (ℓ : Loc nD τ sig) → Buf (Elt Ideal) ℓ) (ρ : Dev nD → PrngReg)

/-- The group sizes' block is their array. -/
theorem iblk_0 (c : Dev nD) (t : Fin cfg0.N) : (iblk m c 0 t : Vec Ideal S5 .i32) = m ((c.tc : Thread nD τ).loc main_arg1) := by
  refine Eq.trans ?_ (V_main_arg1 m c)
  exact Memref.read_access_unit_zero (Elt Ideal) main_arg1 (funext fun a => Nat.zero_mul _) _ _
/-- The rows' block is their array. -/
theorem iblk_1 (c : Dev nD) (t : Fin cfg0.N) : (iblk m c 1 t : Vec Ideal S8192x16384 .bf16) = m ((c.tc : Thread nD τ).loc main_arg0) := by
  refine Eq.trans ?_ (V_main_arg0 m c)
  exact Memref.read_access_unit_zero (Elt Ideal) main_arg0 (funext fun a => Nat.zero_mul _) _ _
/-- The codes' block is their array. -/
theorem iblk_2 (c : Dev nD) (t : Fin cfg0.N) : (iblk m c 2 t : Vec Ideal S5x1536x16384 .fp8e4m3) = m ((c.tc : Thread nD τ).loc main_arg2) := by
  refine Eq.trans ?_ (V_main_arg2 m c)
  exact Memref.read_access_unit_zero (Elt Ideal) main_arg2 (funext fun a => Nat.zero_mul _) _ _
/-- The scales' block is their array. -/
theorem iblk_3 (c : Dev nD) (t : Fin cfg0.N) : (iblk m c 3 t : Vec Ideal S5x1536 .f32) = m ((c.tc : Thread nD τ).loc main_arg3) := by
  refine Eq.trans ?_ (V_main_arg3 m c)
  exact Memref.read_access_unit_zero (Elt Ideal) main_arg3 (funext fun a => Nat.zero_mul _) _ _

/-- The one point of the reference's run. -/
def t₀ : Fin cfg0.N := ⟨0, by decide⟩

/-- The result's array after the run, element by element. -/
theorem arr_at (c : Dev nD) (f : ℕ → ℕ) (hs : Plan.pre f 4 = 8192)
    (hx : ∀ e : Fin 5, (m ((c.tc : Thread nD τ).loc main_arg1) : Vec Ideal S5 .i32) (ix1 e) = BitVec.ofNat 32 (f e.val)) (R : Fin 8192) (l : Fin 1536) (e : Fin 5) (he : Plan.slot f R.val = e.val) :
    ((dats m 0 c).arrAt 4 cfg0.N : Vec Ideal S8192x1536 .bf16) (ix2 R l)
      = valE (m ((c.tc : Thread nD τ).loc main_arg0)) (m ((c.tc : Thread nD τ).loc main_arg2)) (m ((c.tc : Thread nD τ).loc main_arg3)) e R l := by
  have hb : (dats m 0 c).arrAt 4 cfg0.N = (dats m 0 c).flushed 4 t₀ :=
    (Memref.read_access_unit_zero (Elt Ideal) main_v0 (funext fun a => Nat.zero_mul _) _ _).symm.trans (Value.blocks4 m c t₀ (flush0_4 t₀))
  rw [hb, Value.flushed4_A]
  refine Eq.trans (show _ = out0_A_4 c (ms0_0 t₀) (hs0_0 t₀) (ms0_1 t₀) (hs0_1 t₀) (ms0_2 t₀) (hs0_2 t₀) (ms0_3 t₀) (hs0_3 t₀) (ms0_4 t₀) (hs0_4 t₀)
    (iblk m c 0 t₀) (iblk m c 1 t₀) (iblk m c 2 t₀) (iblk m c 3 t₀) (ix2 R l) from rfl) ?_
  rw [iblk_0, iblk_1, iblk_2, iblk_3]
  exact out_at c _ _ _ _ _ _ _ _ _ _ _ _ _ _ f hs hx R l e he

end Cert.ReferenceIdeal.Run

end
-- ==== Proof.RowEq.lean ====
/- The kernel's scale and codes of a row are the textbook's. -/
module

public import proofs.«01_k».proof.Proof.Row

@[expose] public section

noncomputable section

namespace Cert.Row

open Idealize.ShloMosaic

/-! ## The constants -/

/-- The word of 127. -/
theorem ofBits_127 : Ideal.ofBits .f32 0x42FE0000#32 = ((127 : ℝ) : EReal) := by
  simp [Ideal.ofBits, Ideal.ieee]; rw [← EReal.coe_mul]; norm_num

/-- The word of −126. -/
theorem ofBits_m126 : Ideal.ofBits .f32 0xC2FC0000#32 = ((-126 : ℝ) : EReal) := by
  simp [Ideal.ofBits, Ideal.ieee]; rw [← EReal.coe_mul]; norm_num

/-- The word of one. -/
theorem one_f32 : Ideal.ofBits .f32 0x3F800000#32 = 1 := Idealize.ShloMosaic.Ideal.ofBits_one_f32

/-- The word of two. -/
theorem ofBits_two : Ideal.ofBits .f32 0x40000000#32 = ((2 : ℝ) : EReal) := by
  simp [Ideal.ofBits, Ideal.ieee]; rw [← EReal.coe_mul]; norm_num

/-- The reciprocal of the greatest code is a positive number. -/
theorem ofBits_recip : ∃ c : ℝ, 0 < c ∧ Ideal.ofBits .f32 0x37924925#32 = (c : EReal) := by
  refine ⟨9586981 * 2 ^ (-39 : ℤ), by positivity, ?_⟩
  simp [Ideal.ofBits, Ideal.ieee]

/-- The greatest magnitude of a row is not negative. -/
theorem amax_nonneg (v : Fin 16384 → EReal) : 0 ≤ amax v := by
  unfold amax
  rw [Finset.le_fold_max]
  refine Or.inr ⟨0, Finset.mem_univ _, ?_⟩
  rcases le_total 0 (v 0) with h | h
  · exact h.trans (le_max_left _ _)
  · exact (by simpa using EReal.neg_le_neg_iff.mpr h : (0 : EReal) ≤ -(v 0)).trans (le_max_right _ _)

/-! ## Powers of two as the instance has them -/

/-- `exp2` at a whole number. -/
theorem exp2_int (k : ℤ) : Ideal.exp2 (((k : ℝ)) : EReal) = (((2 : ℝ) ^ k : ℝ) : EReal) := by
  rw [Ideal.exp2_coe]
  exact congrArg _ (Real.rpow_intCast 2 k)

/-- The textbook's scale, its exponent a whole number. -/
theorem exp2_min (k : ℤ) : Ideal.exp2 (min (((k : ℝ)) : EReal) ((127 : ℝ) : EReal)) = (((2 : ℝ) ^ min k 127 : ℝ) : EReal) := by
  rw [← exp2_int, ← EReal.coe_strictMono.monotone.map_min]
  congr 2; push_cast; rfl

/-- The textbook's inverse, its exponent a whole number. -/
theorem exp2_max (k : ℤ) : Ideal.exp2 (max (0 - ((k : ℝ) : EReal)) ((-126 : ℝ) : EReal)) = (((2 : ℝ) ^ max (-k) (-126) : ℝ) : EReal) := by
  rw [← exp2_int, zero_sub, ← EReal.coe_neg, ← EReal.coe_strictMono.monotone.map_max]
  congr 2; push_cast; rfl

/-- A power of two is at most `x` exactly where its exponent is at most the floor of the logarithm. -/
theorem zpow_le_iff (x : ℝ) (hx : 0 < x) (k : ℤ) : (2 : ℝ) ^ k ≤ x ↔ k ≤ ⌊Real.log x / Real.log 2⌋ := by
  have h2 : 0 < Real.log 2 := Real.log_pos (by norm_num)
  rw [Int.le_floor, le_div_iff₀ h2, ← Real.log_zpow, Real.log_le_log_iff (zpow_pos (by norm_num) _) hx]

/-- The power with exponent field `E` against a positive number. -/
theorem thr_le_iff (x : ℝ) (hx : 0 < x) (E : ℕ) (hE : E < 256) :
    thr E ≤ (x : EReal) ↔ E = 0 ∨ (E ≤ 254 ∧ (E : ℤ) - 127 ≤ ⌊Real.log x / Real.log 2⌋) := by
  unfold thr
  by_cases h0 : E = 0
  · simp [h0, hx.le]
  by_cases h5 : E = 255
  · subst h5
    rw [if_neg h0, if_pos rfl]
    constructor
    · intro h; exact absurd (top_le_iff.mp h) (EReal.coe_ne_top x)
    · rintro (h | h) <;> omega
  · rw [if_neg h0, if_neg h5, EReal.coe_le_coe_iff, zpow_le_iff x hx]
    constructor
    · intro h; exact Or.inr ⟨by omega, h⟩
    · rintro (h | h)
      · exact absurd h h0
      · exact h.2

/-- The two exponents at a positive number: the same scale and the same inverse, once clipped. -/
theorem field_real (x : ℝ) (hx : 0 < x) : ∃ f, field (x : EReal) = BitVec.ofNat 32 f ∧ f < 256
    ∧ min ((f : ℤ) - 126) 127 = min (max (⌊Real.log x / Real.log 2⌋ + 1) (-126)) 127
    ∧ max (126 - (f : ℤ)) (-126) = max (-(max (⌊Real.log x / Real.log 2⌋ + 1) (-126))) (-126) := by
  obtain ⟨f, e, hf, h1, h2⟩ := field_spec (x : EReal) (by exact_mod_cast hx.le)
  generalize hn : ⌊Real.log x / Real.log 2⌋ = n at *
  have a := (thr_le_iff x hx f hf).mp h1
  have b := fun h => h2 (min (max (n + 127) 1) 254).toNat (by omega) ((thr_le_iff x hx _ (by omega)).mpr h)
  rw [hn] at a b
  have b' : -126 ≤ n → (min (max (n + 127) 1) 254).toNat ≤ f := fun hn' => b (Or.inr ⟨by omega, by omega⟩)
  refine ⟨f, e, hf, ?_, ?_⟩ <;> by_cases hn' : -126 ≤ n <;> [have := b' hn'; skip; have := b' hn'; skip] <;> omega

/-! ## The two exponents -/

/-- Selecting by an equality. -/
theorem select_oeq {α : Type} (x y : EReal) (a b : α) : Scalar.select (Ideal.cmp .oeq x y) a b = if x = y then a else b := by
  unfold Scalar.select Ideal.cmp
  by_cases h : x = y <;> simp [h]

/-- Both sides of the quantiser at a row: the powers of two of one exponent. -/
theorem both (v : Fin 16384 → EReal) : scale v = rscale v ∧ inv v = rinv v := by
  obtain ⟨c, hc, ec⟩ := ofBits_recip
  have ha := amax_nonneg v
  unfold scale inv rscale rinv rexpo expo ratio
  rw [select_oeq, select_oeq, ec, Ideal.ofBits_zero_f32, ofBits_127, ofBits_m126, ofBits_two, one_f32]
  generalize amax v = a at *
  have e126 : (0#32 : BitVec 32) = IntOp.subi (BitVec.ofNat 32 126) 126#32 := by decide
  induction a with
  | bot => exact absurd ha (by simp)
  | top =>
    have e : (⊤ : EReal) * (c : EReal) = ⊤ := EReal.top_mul_coe_of_pos hc
    rw [e, if_neg (by simp), if_neg (by simp)]
    obtain ⟨f, ef, hf, h1, h2⟩ := field_spec ⊤ le_top
    have : f = 255 := by have := h2 255 (by norm_num) le_top; omega
    subst this
    rw [ef, pow2_scale _ hf, pow2_inv _ hf]
    have hl : Ideal.div (Ideal.log ⊤) (Ideal.log ((2 : ℝ) : EReal)) = ⊤ := by
      have h2 : 0 < Real.log 2 := Real.log_pos (by norm_num)
      rw [Ideal.log_top, Ideal.log_coe, if_neg (by norm_num), Ideal.div, if_neg (by exact_mod_cast h2.ne'), ← EReal.coe_inv]
      exact EReal.top_mul_coe_of_pos (inv_pos.mpr h2)
    have hm : max (Ideal.liftRound Int.floor ⊤ + 1) ((-126 : ℝ) : EReal) = ⊤ := by
      show max (⊤ + 1) _ = _
      rw [EReal.top_add_of_ne_bot (by exact EReal.coe_ne_bot 1)]; exact max_eq_left le_top
    rw [hl, hm, min_eq_right le_top, zero_sub, EReal.neg_top, max_eq_right bot_le]
    constructor
    · have := exp2_int 127
      push_cast at this
      rw [this]; norm_num
    · have := exp2_int (-126)
      rw [show ((-126 : ℝ) : EReal) = (((-126 : ℤ) : ℝ) : EReal) by norm_num, this]; norm_num
  | coe r =>
    have hr : 0 ≤ r := by exact_mod_cast ha
    rcases hr.eq_or_lt with h0 | h0
    · subst h0
      rw [EReal.coe_zero, zero_mul, if_pos rfl, if_pos rfl, e126, pow2_scale _ (by norm_num), ← e126]
      have h1 := pow2_inv 126 (by norm_num)
      rw [← e126] at h1
      have h2 := exp2_min 0
      have h3 := exp2_max 0
      simp only [Int.cast_zero, EReal.coe_zero] at h2 h3
      rw [h1, h2, h3]
      constructor <;> norm_num
    · have hx : 0 < r * c := mul_pos h0 hc
      rw [← EReal.coe_mul, if_neg (by exact_mod_cast hx.ne'), if_neg (by exact_mod_cast h0.ne')]
      obtain ⟨f, ef, hf, h1, h2⟩ := field_real _ hx
      have h2' : 0 < Real.log 2 := Real.log_pos (by norm_num)
      have hl : max (Ideal.liftRound Int.floor (Ideal.div (Ideal.log ((r * c : ℝ) : EReal)) (Ideal.log ((2 : ℝ) : EReal))) + 1) ((-126 : ℝ) : EReal)
          = (((max (⌊Real.log (r * c) / Real.log 2⌋ + 1) (-126) : ℤ) : ℝ) : EReal) := by
        rw [Ideal.log_coe, Ideal.log_coe, if_neg (not_le.mpr hx), if_neg (by norm_num), Ideal.div, if_neg (by exact_mod_cast h2'.ne'),
          ← EReal.coe_inv, ← EReal.coe_mul, ← div_eq_mul_inv]
        show max ((((⌊Real.log (r * c) / Real.log 2⌋ : ℤ) : ℝ) : EReal) + ((1 : ℝ) : EReal)) _ = _
        rw [← EReal.coe_add, ← EReal.coe_strictMono.monotone.map_max]
        push_cast; rfl
      rw [ef, hl, pow2_scale _ hf, pow2_inv _ hf, exp2_min, exp2_max, h1, h2]
      exact ⟨rfl, rfl⟩

/-- The kernel's scale of a row is the textbook's. -/
theorem scale_eq (v : Fin 16384 → EReal) : scale v = rscale v := (both v).1

/-- The kernel's code of a row's element is the textbook's. -/
theorem code_eq (v : Fin 16384 → EReal) (k : Fin 16384) : code v k = rcode v k := by
  unfold code rcode; rw [(both v).2]

end Cert.Row

end
-- ==== Proof.Equal.lean ====
/- The kernel's result and the reference's, element by element the same number. -/
module

public import proofs.«01_k».proof.Proof.IFinal
public import proofs.«01_k».proof.Proof.RValue
public import proofs.«01_k».proof.Proof.RowEq

@[expose] public section

set_option maxRecDepth 16384

noncomputable section

namespace Cert.Equal

open Idealize.ShloMosaic Idealize.ShloMosaic.TcCoe

variable (m : (ℓ : Loc Cert.KernelIdeal.nD Cert.KernelIdeal.τ Cert.KernelIdeal.sig) → Buf (Elt Ideal) ℓ)
variable (m' : (ℓ : Loc Cert.ReferenceIdeal.nD Cert.ReferenceIdeal.τ Cert.ReferenceIdeal.sig) → Buf (Elt Ideal) ℓ)

/-- One element: the two scales and the two codes of a row are equal, so the two scaled products are. -/
theorem valE_eq (c : Dev Cert.KernelIdeal.nD) (e : Fin 5) (R : Fin 8192) (l : Fin 1536) :
    Cert.ReferenceIdeal.Run.valE (Cert.KernelIdeal.Run.dyA m c) (Cert.KernelIdeal.Run.wA m c) (Cert.KernelIdeal.Run.wsA m c) e R l
      = Cert.KernelIdeal.Run.valE m c e R l := by
  unfold Cert.ReferenceIdeal.Run.valE Cert.KernelIdeal.Run.valE
  rw [Row.scale_eq]
  simp only [Row.code_eq]

/-- The reference's array on equal arguments is the kernel's. -/
theorem arr_eq (hf : Cert.KernelIdeal.Run.Full m) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) :
    ((Cert.ReferenceIdeal.Gen.dats m' 0 c).arrAt 4 Cert.ReferenceIdeal.cfg0.N : Vec Ideal Cert.ReferenceIdeal.S8192x1536 .bf16) = Cert.KernelIdeal.Run.valT m hf c := by
  obtain rfl : c = 0 := Subsingleton.elim _ _
  refine funext fun (j : Cert.ReferenceIdeal.S8192x1536.Idx) => ?_
  obtain ⟨R, l, rfl⟩ : ∃ (R : Fin 8192) (l : Fin 1536), j = ix2 R l := ⟨j 0, j 1, (ix2_eta j).symm⟩
  refine (Cert.ReferenceIdeal.Run.arr_at m' 0 (Cert.KernelIdeal.Run.sizes m) hf (fun e => ?_) R l ⟨Plan.eid (Cert.KernelIdeal.Run.sizes m) R.val, Cert.KernelIdeal.Run.eid_lt m hf R⟩ rfl).trans ?_
  · rw [h1, ix1_eq_valueIdx]
    exact Tables.g_ap (Cert.KernelIdeal.Run.gs m 0) e
  · rw [h0, h2, h3]
    exact valE_eq m 0 _ R l

end Cert.Equal

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.KFrame
public import proofs.«01_k».proof.Proof.KTables
public import proofs.«01_k».proof.Proof.Gen.KernelIdeal
public import proofs.«01_k».proof.Proof.Gen.KernelIdeal.Skeleton
public import proofs.«01_k».proof.Proof.Gen.KernelIdeal.Launch
public import proofs.«01_k».proof.Proof.IFrame
public import proofs.«01_k».proof.Proof.ITables
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Gen.Pre_sizes_ok
public import proofs.«01_k».proof.Proof.Equal
public import Idealize.ShloMosaic.Adequacy
public import Idealize.ShloMosaic.Init

@[expose] public section

noncomputable section

namespace Cert.Proof

open Idealize.ShloMosaic Idealize.SL.Sem Cert.Kernel

/-- The precondition says that the group sizes sum to the number of rows. -/
theorem full_of_pre (m : (ℓ : Loc Cert.Kernel.nD Cert.Kernel.τ Cert.Kernel.sig) → Buf (Elt Bits) ℓ) (h : Cert.Pre_Kernel m) : Cert.Kernel.Run.Full m :=
  Cert.Tables.sizes_of_pre _ _ _ _ (h 0)

/-- The same at the ideal instance. -/
theorem full_of_pre_ideal (m : (ℓ : Loc Cert.KernelIdeal.nD Cert.KernelIdeal.τ Cert.KernelIdeal.sig) → Buf (Elt Ideal) ℓ) (h : Cert.Pre_KernelIdeal m) : Cert.KernelIdeal.Run.Full m :=
  Cert.Tables.sizes_of_pre _ _ _ _ (h 0)

/-- The kernel and the reference end with equal results. -/
theorem algebraic : Cert.algebraic_KernelIdeal_ReferenceIdeal := fun m g m' g' h ha =>
  have hf := full_of_pre_ideal m h
  ⟨Cert.KernelIdeal.Run.valT m hf, Cert.KernelIdeal.Run.kernel_value m g hf (Cert.KernelIdeal.Run.ok_of_full m hf),
    (θ_run _ _ _).mono (fun _ hr c => ⟨(hr c).1.trans (Cert.Equal.arr_eq m m' hf c (ha c).1 (ha c).2.1 (ha c).2.2.1 (ha c).2.2.2), (hr c).2⟩)
      (Cert.ReferenceIdeal.Value.run_blocks m' g')⟩

/-- Everything claimed. -/
theorem claim : Cert.Claim := ⟨Cert.Kernel.Gen.facts, Cert.KernelIdeal.Gen.facts, Cert.ReferenceIdeal.Gen.facts, Cert.Pre_sizes_ok.Gen.facts,
  fun m ρ h => Cert.Kernel.Run.frame m ρ (Cert.Kernel.Run.ok_of_full m (full_of_pre m h)),
  fun m ρ h => Cert.KernelIdeal.Run.frame m ρ (Cert.KernelIdeal.Run.ok_of_full m (full_of_pre_ideal m h)),
  fun m ρ _ => Cert.ReferenceIdeal.Gen.frame m ρ,
  fun m ρ _ => Cert.ReferenceIdeal.Gen.frame m ρ,
  trivial,
  algebraic⟩

end Cert.Proof

end
